-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_level_table [hPre_level_table : Cert.Pre_level_table.Facts] (m : (ℓ : Loc Cert.KernelIdeal.nD Cert.KernelIdeal.τ Cert.KernelIdeal.sig) → Buf (Elt Ideal) ℓ) : Prop :=
  ∀ c : Dev Cert.KernelIdeal.nD,
    (Cert.Pre_level_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_level_table [hPre_level_table : Cert.Pre_level_table.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_level_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_level_table [hKernelIdeal : Cert.KernelIdeal.Facts] [hPre_level_table : Cert.Pre_level_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_level_table m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_level_table [hReferenceIdeal : Cert.ReferenceIdeal.Facts] [hPre_level_table : Cert.Pre_level_table.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_level_table m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_level_table [hKernelIdeal : Cert.KernelIdeal.Facts] [hReferenceIdeal : Cert.ReferenceIdeal.Facts] [hPre_level_table : Cert.Pre_level_table.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_level_table m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_level_table : Cert.Pre_level_table.Facts),
    quiescent_Kernel (hKernel := hKernel)
    ∧ quiescent_KernelIdeal (hKernelIdeal := hKernelIdeal)
    ∧ quiescent_KernelIdeal_pre_level_table (hKernelIdeal := hKernelIdeal) (hPre_level_table := hPre_level_table)
    ∧ quiescent_ReferenceIdeal (hReferenceIdeal := hReferenceIdeal)
    ∧ quiescent_ReferenceIdeal_pre_level_table (hReferenceIdeal := hReferenceIdeal) (hPre_level_table := hPre_level_table)
    ∧ preserves_Kernel_KernelIdeal
    ∧ algebraic_KernelIdeal_ReferenceIdeal_pre_level_table (hKernelIdeal := hKernelIdeal) (hReferenceIdeal := hReferenceIdeal) (hPre_level_table := hPre_level_table)
-- ==== Pre_level_table.lean ====
abbrev S1024x26 : Shape := ⟨2, ![1024, 26]⟩
abbrev S1000x4096 : Shape := ⟨2, ![1000, 4096]⟩
abbrev S_ : Shape := ⟨0, ![]⟩
abbrev S1x4096 : Shape := ⟨2, ![1, 4096]⟩
abbrev S999x4096 : Shape := ⟨2, ![999, 4096]⟩

class Facts : Prop where
  bcast_S_S1000x4096 : S_.BroadcastsInDim S1000x4096 (![] : Fin 0 → Fin S1000x4096.rank)
  reducesTo_S1000x4096_S_d0_1 : S1000x4096.ReducesTo [0, 1] S_
  h_S_ : 0 < S_.numel
  slices_S1000x4096_S1x4096_0_0 : S1000x4096.Slices ![0, 0] S1x4096
  bcast_S1x4096_S1000x4096_0_1 : S1x4096.BroadcastsInDim S1000x4096 (![0, 1] : Fin 2 → Fin S1000x4096.rank)
  slices_S1000x4096_S1x4096_999_0 : S1000x4096.Slices ![999, 0] S1x4096
  slices_S1000x4096_S999x4096_0_0 : S1000x4096.Slices ![0, 0] S999x4096
  slices_S1000x4096_S999x4096_1_0 : S1000x4096.Slices ![1, 0] S999x4096
  reducesTo_S999x4096_S_d0_1 : S999x4096.ReducesTo [0, 1] S_

variable [Facts]

def fn {F : FTy → Type} [FloatOps F] (main_arg0 : FVec F S1024x26 .f32) (main_arg1 : FVec F S1000x4096 .f32) : IVec S_ 1 :=
  let main_v0 : FVec F S1000x4096 .f32 := Host.absf main_arg1
  let main_cst : FVec F S_ .f32 := constant S_ .f32 0x7F800000#32
  let main_v1 : FVec F S1000x4096 .f32 := broadcastInDim S1000x4096 ![] bcast_S_S1000x4096 main_cst
  let main_v2 : IVec S1000x4096 1 := cmpf .olt main_v0 main_v1
  let main_c : IVec S_ 1 := constantI S_ 1 1#1
  let main_v3 : IVec S_ 1 := (fun x v => Host.reduce IntOp.andi x v reducesTo_S1000x4096_S_d0_1 h_S_) main_v2 main_c
  let main_v4 : FVec F S1x4096 .f32 := (extractStridedSlice S1x4096 ![0, 0] · slices_S1000x4096_S1x4096_0_0) main_arg1
  let main_v5 : FVec F S1000x4096 .f32 := broadcastInDim S1000x4096 ![0, 1] bcast_S1x4096_S1000x4096_0_1 main_v4
  let main_v6 : IVec S1000x4096 1 := cmpf .oeq main_arg1 main_v5
  let main_v7 : FVec F S1x4096 .f32 := (extractStridedSlice S1x4096 ![999, 0] · slices_S1000x4096_S1x4096_999_0) main_arg1
  let main_v8 : FVec F S1000x4096 .f32 := broadcastInDim S1000x4096 ![0, 1] bcast_S1x4096_S1000x4096_0_1 main_v7
  let main_v9 : IVec S1000x4096 1 := cmpf .oeq main_arg1 main_v8
  let main_v10 : IVec S1000x4096 1 := ori main_v6 main_v9
  let main_c_0 : IVec S_ 1 := constantI S_ 1 1#1
  let main_v11 : IVec S_ 1 := (fun x v => Host.reduce IntOp.andi x v reducesTo_S1000x4096_S_d0_1 h_S_) main_v10 main_c_0
  let main_v12 : IVec S999x4096 1 := (extractStridedSlice S999x4096 ![0, 0] · slices_S1000x4096_S999x4096_0_0) main_v6
  let main_v13 : IVec S999x4096 1 := (extractStridedSlice S999x4096 ![1, 0] · slices_S1000x4096_S999x4096_1_0) main_v6
  let main_v14 : IVec S999x4096 1 := noti main_v13
  let main_v15 : IVec S999x4096 1 := ori main_v12 main_v14
  let main_c_1 : IVec S_ 1 := constantI S_ 1 1#1
  let main_v16 : IVec S_ 1 := (fun x v => Host.reduce IntOp.andi x v reducesTo_S999x4096_S_d0_1 h_S_) main_v15 main_c_1
  let main_v17 : IVec S_ 1 := andi main_v3 main_v11
  let main_v18 : IVec S_ 1 := andi main_v17 main_v16
  main_v18
-- ==== Kernel.lean ====
abbrev S1024x26 : Shape := ⟨2, ![1024, 26]⟩
abbrev S1000x4096 : Shape := ⟨2, ![1000, 4096]⟩
abbrev S1x4096 : Shape := ⟨2, ![1, 4096]⟩
abbrev S54x4096 : Shape := ⟨2, ![54, 4096]⟩
abbrev S4096 : Shape := ⟨1, ![4096]⟩
abbrev S54x1 : Shape := ⟨2, ![54, 1]⟩
abbrev S26624 : Shape := ⟨1, ![26624]⟩
abbrev S27x4096 : Shape := ⟨2, ![27, 4096]⟩
abbrev S110592 : Shape := ⟨1, ![110592]⟩
abbrev S1024x4096 : Shape := ⟨2, ![1024, 4096]⟩
abbrev S832 : Shape := ⟨1, ![832]⟩
abbrev S32x32 : Shape := ⟨2, ![32, 32]⟩
abbrev S1008 : Shape := ⟨1, ![1008]⟩
abbrev S_ : Shape := ⟨0, ![]⟩
abbrev S16 : Shape := ⟨1, ![16]⟩
abbrev S1x16 : Shape := ⟨2, ![1, 16]⟩

abbrev nBuf : Table → Nat
  | .hbm => 9
  | .local .tc .vmem => 3
  | .local .scVector .vmem => 7
  | _ => 0

abbrev bufTy : (tb : Table) → Fin (nBuf tb) → BufTy
  | .hbm, ⟨0, _⟩ => ⟨S1024x26, .f32⟩
  | .hbm, ⟨1, _⟩ => ⟨S1000x4096, .f32⟩
  | .hbm, ⟨2, _⟩ => ⟨S1x4096, .i32⟩
  | .hbm, ⟨3, _⟩ => ⟨S54x4096, .f32⟩
  | .hbm, ⟨4, _⟩ => ⟨S26624, .f32⟩
  | .hbm, ⟨5, _⟩ => ⟨S4096, .i32⟩
  | .hbm, ⟨6, _⟩ => ⟨S27x4096, .f32⟩
  | .hbm, ⟨7, _⟩ => ⟨S110592, .f32⟩
  | .hbm, ⟨8, _⟩ => ⟨S1024x4096, .f32⟩
  | .local .tc .vmem, ⟨0, _⟩ => ⟨S1000x4096, .f32⟩
  | .local .tc .vmem, ⟨1, _⟩ => ⟨S1x4096, .i32⟩
  | .local .tc .vmem, ⟨2, _⟩ => ⟨S54x4096, .f32⟩
  | .local .scVector .vmem, ⟨0, _⟩ => ⟨S832, .f32⟩
  | .local .scVector .vmem, ⟨1, _⟩ => ⟨S32x32, .i32⟩
  | .local .scVector .vmem, ⟨2, _⟩ => ⟨S4096, .i32⟩
  | .local .scVector .vmem, ⟨3, _⟩ => ⟨S110592, .f32⟩
  | .local .scVector .vmem, ⟨4, _⟩ => ⟨S1008, .i32⟩
  | .local .scVector .vmem, ⟨5, _⟩ => ⟨S1008, .i32⟩
  | .local .scVector .vmem, ⟨6, _⟩ => ⟨S4096, .f32⟩
  | _, _ => ⟨S1024x26, .f32⟩

abbrev bufScoped : (cs : CoreSpace) → Fin (nBuf (.local .tc cs)) → Bool
  | .vmem, ⟨0, _⟩ => true
  | .vmem, ⟨1, _⟩ => true
  | .vmem, ⟨2, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => true
  | ⟨1, _⟩ => true
  | ⟨2, _⟩ => true
  | ⟨3, _⟩ => false
  | ⟨4, _⟩ => false
  | ⟨5, _⟩ => false
  | ⟨6, _⟩ => false
  | ⟨7, _⟩ => false
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v1_scv : Ref sig .scVector := ⟨.hbm, 4, rfl⟩
abbrev main_v2_scv : Ref sig .scVector := ⟨.hbm, 5, rfl⟩
abbrev main_v4_scv : Ref sig .scVector := ⟨.hbm, 7, rfl⟩
abbrev main_v5_scv : Ref sig .scVector := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc1_scratch5 : Ref sig .scVector := ⟨.vmem, 5, rfl⟩
abbrev cc1_scratch6 : Ref sig .scVector := ⟨.vmem, 6, rfl⟩
abbrev cc0_sem0_0 : DmaSem sig := 0
abbrev cc0_sem1_0 : DmaSem sig := 1
abbrev cc0_sem2_0 : DmaSem sig := 2
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

abbrev stage0_0 : Fin 1 → Memref sig .tc .vmem S1000x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x4096 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S54x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c26_i32 : BitVec 32 := 26#32
  let v3 : BitVec 32 := Scalar.muli v2 c26_i32
  ![v3.toNat]
@[reducible] def k1_t1_loop : Scf.Loop 32 :=
  let c0_i32_0 : BitVec 32 := 0#32
  let c64_i32 : BitVec 32 := 64#32
  let v6 : BitVec 32 := Scalar.addi c0_i32_0 c64_i32
  let c1_i32 : BitVec 32 := 1#32
  ⟨c0_i32_0, v6, c1_i32⟩

def k1_chk1 (v40 : IVec S16 32) (v42 : IVec S16 32) : Prop :=
  (∀ a x, ((![v40, v42] : Fin 2 → IVec S16 32) a x).toNat < S32x32.size a)
theorem k1_idx1_inb : ∀ (v40 : IVec S16 32) (v42 : IVec S16 32) (k1_hw1 : k1_chk1 v40 v42), ∀ a x, ((![v40, v42] : Fin 2 → IVec S16 32) a x).toNat < S32x32.size a := fun v40 v42 k1_hw1 => k1_hw1
@[reducible] def k1_t2_loop : Scf.Loop 32 :=
  let c0_i32_3 : BitVec 32 := 0#32
  let c52_i32 : BitVec 32 := 52#32
  let v8 : BitVec 32 := Scalar.addi c0_i32_3 c52_i32
  let c1_i32_4 : BitVec 32 := 1#32
  ⟨c0_i32_3, v8, c1_i32_4⟩
def k1_off2 (k1_t2 : Fin k1_t2_loop.trips) : Fin 1 → Nat :=
  let c0_i32_3 : BitVec 32 := 0#32
  let c1_i32_4 : BitVec 32 := 1#32
  let arg14 : BitVec 32 := Scf.iv c0_i32_3 c1_i32_4 k1_t2
  let c16_i32 : BitVec 32 := 16#32
  let v14 : BitVec 32 := Scalar.muli arg14 c16_i32
  let v15 : Index := Scalar.indexCast v14
  ![v15.toNat]

def k1_chk2 (v61 : IVec S16 32) (v64 : IVec S16 32) : Prop :=
  (∀ a x, ((![v61, v64] : Fin 2 → IVec S16 32) a x).toNat < S32x32.size a)
theorem k1_idx2_inb : ∀ (v61 : IVec S16 32) (v64 : IVec S16 32) (k1_hw2 : k1_chk2 v61 v64), ∀ a x, ((![v61, v64] : Fin 2 → IVec S16 32) a x).toNat < S32x32.size a := fun v61 v64 k1_hw2 => k1_hw2
@[reducible] def k1_t3_loop : Scf.Loop 32 :=
  let c0_i32_9 : BitVec 32 := 0#32
  let c32_i32_10 : BitVec 32 := 32#32
  let v12 : BitVec 32 := Scalar.addi c0_i32_9 c32_i32_10
  let c1_i32_11 : BitVec 32 := 1#32
  ⟨c0_i32_9, v12, c1_i32_11⟩
@[reducible] def k1_t4_loop : Scf.Loop 32 :=
  let c0_i32_14 : BitVec 32 := 0#32
  let c63_i32 : BitVec 32 := 63#32
  let v14 : BitVec 32 := Scalar.addi c0_i32_14 c63_i32
  let c1_i32_15 : BitVec 32 := 1#32
  ⟨c0_i32_14, v14, c1_i32_15⟩
def k1_off3 (k1_t4 : Fin k1_t4_loop.trips) : Fin 1 → Nat :=
  let c0_i32_14 : BitVec 32 := 0#32
  let c1_i32_15 : BitVec 32 := 1#32
  let arg16 : BitVec 32 := Scf.iv c0_i32_14 c1_i32_15 k1_t4
  let c16_i32 : BitVec 32 := 16#32
  let v25 : BitVec 32 := Scalar.muli arg16 c16_i32
  let v26 : Index := Scalar.indexCast v25
  ![v26.toNat]
def k1_off4 (k1_t3 : Fin k1_t3_loop.trips) : Fin 2 → Nat :=
  let c0_i32_9 : BitVec 32 := 0#32
  let c1_i32_11 : BitVec 32 := 1#32
  let arg14 : BitVec 32 := Scf.iv c0_i32_9 c1_i32_11 k1_t3
  let v16 : Index := Scalar.indexCast arg14
  let c0 : Index := 0#32
  ![v16.toNat, 0]
def k1_off5 (k1_t3 : Fin k1_t3_loop.trips) : Fin 2 → Nat :=
  let c0_i32_9 : BitVec 32 := 0#32
  let c1_i32_11 : BitVec 32 := 1#32
  let arg14 : BitVec 32 := Scf.iv c0_i32_9 c1_i32_11 k1_t3
  let v18 : Index := Scalar.indexCast arg14
  let c16 : Index := 16#32
  ![v18.toNat, 16]

def k1_chk3 (v17 : IVec S16 32) : Prop :=
  (∀ a x, ((![v17] : Fin 1 → IVec S16 32) a x).toNat < S1008.size a)
theorem k1_idx3_inb : ∀ (v17 : IVec S16 32) (k1_hw3 : k1_chk3 v17), ∀ a x, ((![v17] : Fin 1 → IVec S16 32) a x).toNat < S1008.size a := fun v17 k1_hw3 => k1_hw3

def k1_chk4 (v19 : IVec S16 32) : Prop :=
  (∀ a x, ((![v19] : Fin 1 → IVec S16 32) a x).toNat < S1008.size a)
theorem k1_idx4_inb : ∀ (v19 : IVec S16 32) (k1_hw4 : k1_chk4 v19), ∀ a x, ((![v19] : Fin 1 → IVec S16 32) a x).toNat < S1008.size a := fun v19 k1_hw4 => k1_hw4
@[reducible] def k1_t5_loop : Scf.Loop 32 :=
  let c0_i32_18 : BitVec 32 := 0#32
  let c63_i32_19 : BitVec 32 := 63#32
  let v20 : BitVec 32 := Scalar.addi c0_i32_18 c63_i32_19
  let c1_i32_20 : BitVec 32 := 1#32
  ⟨c0_i32_18, v20, c1_i32_20⟩
def k1_off6 (k1_t5 : Fin k1_t5_loop.trips) : Fin 1 → Nat :=
  let c0_i32_18 : BitVec 32 := 0#32
  let c1_i32_20 : BitVec 32 := 1#32
  let arg16 : BitVec 32 := Scf.iv c0_i32_18 c1_i32_20 k1_t5
  let c16_i32 : BitVec 32 := 16#32
  let v25 : BitVec 32 := Scalar.muli arg16 c16_i32
  let v26 : Index := Scalar.indexCast v25
  ![v26.toNat]
@[reducible] def k1_t6_loop : Scf.Loop 32 :=
  let c0_i32_23 : BitVec 32 := 0#32
  let c256_i32 : BitVec 32 := 256#32
  let v22 : BitVec 32 := Scalar.addi c0_i32_23 c256_i32
  let c1_i32_24 : BitVec 32 := 1#32
  ⟨c0_i32_23, v22, c1_i32_24⟩
def k1_off7 (k1_t6 : Fin k1_t6_loop.trips) : Fin 1 → Nat :=
  let c0_i32_23 : BitVec 32 := 0#32
  let c1_i32_24 : BitVec 32 := 1#32
  let arg16 : BitVec 32 := Scf.iv c0_i32_23 c1_i32_24 k1_t6
  let c16_i32 : BitVec 32 := 16#32
  let v25 : BitVec 32 := Scalar.muli arg16 c16_i32
  let v26 : Index := Scalar.indexCast v25
  ![v26.toNat]

def k1_chk5 (v27 : IVec S16 32) : Prop :=
  (∀ a x, ((![v27] : Fin 1 → IVec S16 32) a x).toNat < S1008.size a)
theorem k1_idx5_inb : ∀ (v27 : IVec S16 32) (k1_hw5 : k1_chk5 v27), ∀ a x, ((![v27] : Fin 1 → IVec S16 32) a x).toNat < S1008.size a := fun v27 k1_hw5 => k1_hw5

def k1_chk6 (v31 : IVec S16 32) : Prop :=
  (∀ a x, ((![v31] : Fin 1 → IVec S16 32) a x).toNat < S110592.size a)
theorem k1_idx6_inb : ∀ (v31 : IVec S16 32) (k1_hw6 : k1_chk6 v31), ∀ a x, ((![v31] : Fin 1 → IVec S16 32) a x).toNat < S110592.size a := fun v31 k1_hw6 => k1_hw6
def k1_off8 (k1_t6 : Fin k1_t6_loop.trips) : Fin 1 → Nat :=
  let c0_i32_23 : BitVec 32 := 0#32
  let c1_i32_24 : BitVec 32 := 1#32
  let arg16 : BitVec 32 := Scf.iv c0_i32_23 c1_i32_24 k1_t6
  let c16_i32 : BitVec 32 := 16#32
  let v25 : BitVec 32 := Scalar.muli arg16 c16_i32
  let v33 : Index := Scalar.indexCast v25
  ![v33.toNat]
def k1_off9 (i : grid1.Coords) (k1_t3 : Fin k1_t3_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_9 : BitVec 32 := 0#32
  let c1_i32_11 : BitVec 32 := 1#32
  let arg14 : BitVec 32 := Scf.iv c0_i32_9 c1_i32_11 k1_t3
  let v24 : BitVec 32 := Scalar.addi v2 arg14
  let c0_i32_27_r3 : BitVec 32 := 0#32
  ![v24.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1024x26 : Shape := ⟨2, ![1024, 26]⟩
abbrev S1000x4096 : Shape := ⟨2, ![1000, 4096]⟩
abbrev S_ : Shape := ⟨0, ![]⟩
abbrev S1024x26x1 : Shape := ⟨3, ![1024, 26, 1]⟩
abbrev S1 : Shape := ⟨1, ![1]⟩
abbrev S1x1x1 : Shape := ⟨3, ![1, 1, 1]⟩
abbrev S1024x26x4096 : Shape := ⟨3, ![1024, 26, 4096]⟩
abbrev S1024x4096 : Shape := ⟨2, ![1024, 4096]⟩

abbrev nBuf : Space → Nat
  | .hbm => 41
  | .vmem => 0
  | .smem => 0
  | _ => 0

abbrev bufTy : (tb : Table) → Fin (tcTables nBuf tb) → BufTy
  | .hbm, ⟨0, _⟩ => ⟨S1024x26, .f32⟩
  | .hbm, ⟨1, _⟩ => ⟨S1000x4096, .f32⟩
  | .hbm, ⟨2, _⟩ => ⟨S_, .f32⟩
  | .hbm, ⟨3, _⟩ => ⟨S1024x26, .f32⟩
  | .hbm, ⟨4, _⟩ => ⟨S1024x26, .f32⟩
  | .hbm, ⟨5, _⟩ => ⟨S1024x26, .f32⟩
  | .hbm, ⟨6, _⟩ => ⟨S_, .i32⟩
  | .hbm, ⟨7, _⟩ => ⟨S_, .i32⟩
  | .hbm, ⟨8, _⟩ => ⟨S_, .f32⟩
  | .hbm, ⟨9, _⟩ => ⟨S1024x26, .f32⟩
  | .hbm, ⟨10, _⟩ => ⟨S1024x26, .f32⟩
  | .hbm, ⟨11, _⟩ => ⟨S_, .f32⟩
  | .hbm, ⟨12, _⟩ => ⟨S1024x26, .f32⟩
  | .hbm, ⟨13, _⟩ => ⟨S1024x26, .f32⟩
  | .hbm, ⟨14, _⟩ => ⟨S1024x26, .i32⟩
  | .hbm, ⟨15, _⟩ => ⟨S_, .i32⟩
  | .hbm, ⟨16, _⟩ => ⟨S1024x26, .i32⟩
  | .hbm, ⟨17, _⟩ => ⟨S1024x26, .i1⟩
  | .hbm, ⟨18, _⟩ => ⟨S_, .i32⟩
  | .hbm, ⟨19, _⟩ => ⟨S1024x26, .i32⟩
  | .hbm, ⟨20, _⟩ => ⟨S1024x26, .i32⟩
  | .hbm, ⟨21, _⟩ => ⟨S1024x26, .i32⟩
  | .hbm, ⟨22, _⟩ => ⟨S1024x26x1, .i32⟩
  | .hbm, ⟨23, _⟩ => ⟨S1, .i32⟩
  | .hbm, ⟨24, _⟩ => ⟨S_, .i32⟩
  | .hbm, ⟨25, _⟩ => ⟨S1024x26x1, .i32⟩
  | .hbm, ⟨26, _⟩ => ⟨S1024x26x1, .i1⟩
  | .hbm, ⟨27, _⟩ => ⟨S1x1x1, .i32⟩
  | .hbm, ⟨28, _⟩ => ⟨S1024x26x1, .i32⟩
  | .hbm, ⟨29, _⟩ => ⟨S1024x26x1, .i1⟩
  | .hbm, ⟨30, _⟩ => ⟨S1024x26x1, .i1⟩
  | .hbm, ⟨31, _⟩ => ⟨S_, .i1⟩
  | .hbm, ⟨32, _⟩ => ⟨S1024x26, .i1⟩
  | .hbm, ⟨33, _⟩ => ⟨S1024x26x4096, .f32⟩
  | .hbm, ⟨34, _⟩ => ⟨S1024x26x4096, .i1⟩
  | .hbm, ⟨35, _⟩ => ⟨S_, .f32⟩
  | .hbm, ⟨36, _⟩ => ⟨S1024x26x4096, .f32⟩
  | .hbm, ⟨37, _⟩ => ⟨S1024x26x4096, .f32⟩
  | .hbm, ⟨38, _⟩ => ⟨S_, .f32⟩
  | .hbm, ⟨39, _⟩ => ⟨S1024x4096, .f32⟩
  | .hbm, ⟨40, _⟩ => ⟨S1024x4096, .f32⟩
  | _, _ => ⟨S1024x26, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_c_0 : Ref sig .tc := ⟨.hbm, 7, rfl⟩
abbrev main_call1_v0 : Ref sig .tc := ⟨.hbm, 8, rfl⟩
abbrev main_call1_v1 : Ref sig .tc := ⟨.hbm, 9, rfl⟩
abbrev main_call1_v2 : Ref sig .tc := ⟨.hbm, 10, rfl⟩
abbrev main_call1_v3 : Ref sig .tc := ⟨.hbm, 11, rfl⟩
abbrev main_call1_v4 : Ref sig .tc := ⟨.hbm, 12, rfl⟩
abbrev main_v3 : Ref sig .tc := ⟨.hbm, 13, rfl⟩
abbrev main_v4 : Ref sig .tc := ⟨.hbm, 14, rfl⟩
abbrev main_call2_c : Ref sig .tc := ⟨.hbm, 15, rfl⟩
abbrev main_call2_v0 : Ref sig .tc := ⟨.hbm, 16, rfl⟩
abbrev main_call2_v1 : Ref sig .tc := ⟨.hbm, 17, rfl⟩
abbrev main_call2_c_0 : Ref sig .tc := ⟨.hbm, 18, rfl⟩
abbrev main_call2_v2 : Ref sig .tc := ⟨.hbm, 19, rfl⟩
abbrev main_call2_v3 : Ref sig .tc := ⟨.hbm, 20, rfl⟩
abbrev main_call2_v4 : Ref sig .tc := ⟨.hbm, 21, rfl⟩
abbrev main_call2_v5 : Ref sig .tc := ⟨.hbm, 22, rfl⟩
abbrev main_call2_c_1 : Ref sig .tc := ⟨.hbm, 23, rfl⟩
abbrev main_call2_c_2 : Ref sig .tc := ⟨.hbm, 24, rfl⟩
abbrev main_call2_v6 : Ref sig .tc := ⟨.hbm, 25, rfl⟩
abbrev main_call2_v7 : Ref sig .tc := ⟨.hbm, 26, rfl⟩
abbrev main_call2_v8 : Ref sig .tc := ⟨.hbm, 27, rfl⟩
abbrev main_call2_v9 : Ref sig .tc := ⟨.hbm, 28, rfl⟩
abbrev main_call2_v10 : Ref sig .tc := ⟨.hbm, 29, rfl⟩
abbrev main_call2_v11 : Ref sig .tc := ⟨.hbm, 30, rfl⟩
abbrev main_call2_c_3 : Ref sig .tc := ⟨.hbm, 31, rfl⟩
abbrev main_call2_v12 : Ref sig .tc := ⟨.hbm, 32, rfl⟩
abbrev main_call2_v13 : Ref sig .tc := ⟨.hbm, 33, rfl⟩
abbrev main_call2_v14 : Ref sig .tc := ⟨.hbm, 34, rfl⟩
abbrev main_call2_cst : Ref sig .tc := ⟨.hbm, 35, rfl⟩
abbrev main_call2_v15 : Ref sig .tc := ⟨.hbm, 36, rfl⟩
abbrev main_v5 : Ref sig .tc := ⟨.hbm, 37, rfl⟩
abbrev main_cst_1 : Ref sig .tc := ⟨.hbm, 38, rfl⟩
abbrev main_v6 : Ref sig .tc := ⟨.hbm, 39, rfl⟩
abbrev main_v7 : Ref sig .tc := ⟨.hbm, 40, rfl⟩

abbrev nD : Nat := 1
abbrev τ : Topo := Topo.v7x

variable {F : FTy → Type} [FloatOps F]
-- ==== Proof.Words.lean ====
/-
  The integer words of the SparseCore program: the lane numbers, the row and column words its scatters address, and what
  a scatter store, a scatter add and a running sum of sixteen lanes leave. Nothing here mentions a float.
-/
module

public import proofs.«01_k».proof.Defs
public import proofs.«01_k».proof.Proof.Gen.KernelIdeal.Skeleton

@[expose] public section

noncomputable section

namespace Cert.Proof.Enc

open Cert.KernelIdeal Cert.KernelIdeal.Gen
open Idealize.ShloMosaic

/-- Lane `k` of a sixteen-lane vector, as its index. -/
abbrev lane (k : Fin 16) : S16.Idx := Shape.ofLane (d := ![16]) k

/-- Every index of a sixteen-lane vector is a lane. -/
theorem lane_eq (x : S16.Idx) : x = lane (x 0) := by
  funext a
  obtain rfl : a = 0 := Fin.eq_zero a
  rfl

/-- The vector of lane numbers the program counts from. -/
abbrev lanes : IVec S16 32 := iota .scVector S16 32 [0] iota_S16_d0_w32_scVector

/-! ## The addressed rows and columns -/

/-- The filling loop's row word: position `16 t + k` divided by the row length 32. -/
theorem fill_row : ∀ (t : Fin k1_t1_loop.trips) (k : Fin 16), (k1_pay3 t (lane k)).toNat = (16 * t.val + k.val) / 32 := by
  decide +kernel

/-- The filling loop's column word: position `16 t + k` modulo 32. -/
theorem fill_col : ∀ (t : Fin k1_t1_loop.trips) (k : Fin 16), (k1_pay4 t (lane k)).toNat = (16 * t.val + k.val) % 32 := by
  decide +kernel

/-- The quantising loop's row word: position `16 t + k` divided by the 26 features of a sample. -/
theorem feat_row : ∀ (t : Fin k1_t2_loop.trips) (k : Fin 16),
    (k1_pay5 (k1_pay14 lanes 0#32 1#32 t) (k1_pay15 lanes 0#32 1#32 t) (lane k)).toNat = (16 * t.val + k.val) / 26 := by
  decide +kernel

/-- The quantising loop's column word: position `16 t + k` modulo 26. -/
theorem feat_col : ∀ (t : Fin k1_t2_loop.trips) (k : Fin 16),
    (k1_pay6 (k1_pay13 lanes 0#32 1#32 t) (k1_pay5 (k1_pay14 lanes 0#32 1#32 t) (k1_pay15 lanes 0#32 1#32 t)) (lane k)).toNat
      = (16 * t.val + k.val) % 26 := by
  decide +kernel

/-- The gather loop's column word. -/
theorem col_word : ∀ (t : Fin k1_t6_loop.trips) (k : Fin 16), (k1_pay11 (F := fun _ => Unit) t (fun _ => 0#32) (lane k)) = BitVec.ofNat 32 (16 * t.val + k.val) := by
  decide +kernel

/-! ## A scatter of lanes -/

variable {F : FTy → Type} [FloatOps F] {s : Shape} {d : Fin 1 → Nat}

/-- What a scatter store leaves at an index no lane names: what was there. -/
theorem storeIdx_of_not (e : EltTy) (f : Vec F s e) (idxs : Fin s.rank → IVec ⟨1, d⟩ 32) (v : Vec F ⟨1, d⟩ e)
    (h : ∀ a x, (idxs a x).toNat < s.size a) (j : s.Idx) (hj : ∀ k, ¬ ∀ a, (j a).val = (idxs a (Shape.ofLane k)).toNat) :
    storeIdx f idxs v (fun _ => 1#1) false h j = f j := by
  suffices H : ∀ w, f j = w → storeIdx f idxs v (fun _ => 1#1) false h j = w from H _ rfl
  intro w
  unfold storeIdx
  generalize List.finRange (d 0) = l
  generalize f = g
  induction l generalizing g with
  | nil => intro hg; exact hg
  | cons k l ih =>
    intro hg
    rw [List.foldl_cons]
    refine ih _ ?_
    have hj' : ¬ ∀ a, (j a).val = (idxAt idxs h (Shape.ofLane k) a).val := hj k
    dsimp only
    rw [if_pos (show (1#1 : BitVec 1) = 1 from rfl), if_neg hj']
    exact hg

/-- What a scatter store leaves at an index some lane names, where all lanes naming it carry one word `w`: that word. -/
theorem storeIdx_of_mem (e : EltTy) (f : Vec F s e) (idxs : Fin s.rank → IVec ⟨1, d⟩ 32) (v : Vec F ⟨1, d⟩ e)
    (h : ∀ a x, (idxs a x).toNat < s.size a) (j : s.Idx) (w : Elt F e) (k₀ : Fin (d 0)) (hk : ∀ a, (j a).val = (idxs a (Shape.ofLane k₀)).toNat)
    (hw : ∀ k, (∀ a, (j a).val = (idxs a (Shape.ofLane k)).toNat) → v (Shape.ofLane k) = w) :
    storeIdx f idxs v (fun _ => 1#1) false h j = w := by
  unfold storeIdx
  have hg : f j = w ∨ k₀ ∈ List.finRange (d 0) := .inr (List.mem_finRange k₀)
  revert hg
  generalize List.finRange (d 0) = l
  generalize f = g
  induction l generalizing g with
  | nil => intro hg; exact hg.resolve_right List.not_mem_nil
  | cons k l ih =>
    intro hg
    rw [List.foldl_cons]
    refine ih _ ?_
    dsimp only
    rw [if_pos (show (1#1 : BitVec 1) = 1 from rfl)]
    by_cases hj : ∀ a, (j a).val = (idxAt idxs h (Shape.ofLane k) a).val
    · rw [if_pos hj]
      exact .inl (hw k hj)
    · rw [if_neg hj]
      rcases hg with hg | hg
      · exact .inl hg
      · rcases List.mem_cons.mp hg with rfl | hg
        · exact absurd hk hj
        · exact .inr hg

/-- What a scatter add of ones leaves in a vector: each cell raised by the number of lanes that name it. -/
theorem storeIdx_add {n : Fin 1 → Nat} (f : Vec F ⟨1, n⟩ .i32) (x : IVec ⟨1, d⟩ 32) (v : Vec F ⟨1, d⟩ .i32) (hv : ∀ k, v k = 1#32)
    (h : ∀ (a : Fin (⟨1, n⟩ : Shape).rank) k, ((![x] : Fin 1 → IVec ⟨1, d⟩ 32) a k).toNat < n a) (j : (⟨1, n⟩ : Shape).Idx) :
    storeIdx (F := F) (s := ⟨1, n⟩) (e := .i32) f ![x] v (fun _ => 1#1) true h j
      = (f j + BitVec.ofNat 32 (Finset.univ.filter fun k : Fin (d 0) => (x (Shape.ofLane k)).toNat = (j 0).val).card : BitVec 32) := by
  have hc : (Finset.univ.filter fun k : Fin (d 0) => (x (Shape.ofLane k)).toNat = (j 0).val).card
      = (List.finRange (d 0)).countP fun k => (x (Shape.ofLane k)).toNat = (j 0).val := by
    rw [List.countP_eq_length_filter]; rfl
  rw [hc]
  unfold storeIdx
  generalize List.finRange (d 0) = l
  generalize f = g
  induction l generalizing g with
  | nil => rw [List.countP_nil]; exact (BitVec.add_zero _).symm
  | cons k l ih =>
    rw [List.foldl_cons, ih, List.countP_cons]
    dsimp only
    rw [if_pos (show (1#1 : BitVec 1) = 1 from rfl)]
    by_cases hj : (x (Shape.ofLane k)).toNat = (j 0).val
    · have hi : idxAt (s := ⟨1, n⟩) ![x] h (Shape.ofLane k) = j := by
        funext a
        obtain rfl : a = 0 := Fin.eq_zero a
        exact Fin.ext hj
      rw [hi, if_pos (fun _ => rfl), if_pos rfl, if_pos (by simpa using hj), BitVec.ofNat_add, BitVec.add_comm (BitVec.ofNat 32 _),
        ← BitVec.add_assoc, hv]
      rfl
    · have hj' : ¬ ∀ a, (j a).val = (idxAt (s := ⟨1, n⟩) ![x] h (Shape.ofLane k) a).val := fun hc => hj (hc 0).symm
      rw [if_neg hj', if_neg (by simpa using hj), Nat.add_zero]

/-! ## A running sum of sixteen lanes -/

/-- The first lane of a running sum is the first lane; -/
theorem scan_zero (v : IVec S16 32) : scan (d := ![16]) .sum v (lane 0) = v (lane 0) := rfl

/-- each later one is the one before it plus its own lane. -/
theorem scan_succ (v : IVec S16 32) : ∀ (k : Nat) (hk : k + 1 < 16),
    scan (d := ![16]) .sum v (lane ⟨k + 1, hk⟩) = scan (d := ![16]) .sum v (lane ⟨k, by omega⟩) + v (lane ⟨k + 1, hk⟩)
  | 0, _ => rfl | 1, _ => rfl | 2, _ => rfl | 3, _ => rfl | 4, _ => rfl | 5, _ => rfl | 6, _ => rfl | 7, _ => rfl
  | 8, _ => rfl | 9, _ => rfl | 10, _ => rfl | 11, _ => rfl | 12, _ => rfl | 13, _ => rfl | 14, _ => rfl
  | n + 15, h => absurd h (by omega)

/-- A running sum of a vector whose lanes are the steps of `c` is `c` less its start. -/
theorem scan_steps (v : IVec S16 32) (c : Nat → BitVec 32) (hv : ∀ k : Fin 16, v (lane k) = c (k.val + 1) - c k.val) :
    ∀ (k : Nat) (hk : k < 16), scan (d := ![16]) .sum v (lane ⟨k, hk⟩) = c (k + 1) - c 0
  | 0, hk => (scan_zero v).trans (hv 0)
  | k + 1, hk => by
    rw [scan_succ, scan_steps v c hv k (by omega), hv ⟨k + 1, hk⟩]
    show c (k + 1) - c 0 + (c (k + 1 + 1) - c (k + 1)) = _
    generalize c (k + 1 + 1) = z; generalize c (k + 1) = y; generalize c 0 = x
    bv_omega

end Cert.Proof.Enc

end
-- ==== Proof.Setup.lean ====
/-
  The program as the launch theorem sees it: the SparseCore configuration, its handshake facts, the resource algebra
  (the handshakes' rounds, the TensorCore region's rounds and the transfers' counters), and the arrays as locations.
-/
module

public import proofs.«01_k».proof.Defs
public import proofs.«01_k».proof.Proof.Words
public import Idealize.ShloMosaic.Lib.SparseCore.Quiescent
public import Idealize.ShloMosaic.Lib.StableHlo.Run
public import Idealize.ShloMosaic.Lib.Pipeline.Kit
public import Idealize.ShloMosaic.Lib.Pipeline.Regions
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.Enc

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-- The labels of the pipelined program below the SparseCore call. -/
abbrev ΛP : Labels := Pipeline.Sig Λ₀ (Fin 1) fun p => (pcfgs (F := F) p).Adm
/-- The SparseCore call's configuration. -/
abbrev K : SparseCore.Cfg τ sig (ΛP (F := F)) 1 := sc (F := F)
/-- The call runs on 16 tiles of each SparseCore. -/
theorem nSub_zero : (K (F := F)).nSub 0 = 16 := rfl
/-- The call runs on 2 SparseCores. -/
theorem nCore_zero : (K (F := F)).nCore 0 = 2 := rfl
/-- The bodies below the SparseCore call. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The handshake's semaphores are four, none of them scoped, and no tile shares its buffers. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-- The handshakes' rounds. -/
abbrev UH : Type := URounds (GSem nD τ sig) ℕ
/-- The region's rounds, beside the transfers' counters. -/
abbrev UP : Type := URounds (GSem nD τ sig) Unit
abbrev UQ : Type := UP × Counters
abbrev UU : Type := UH × UQ

local notation "𝕄" => MT nD τ sig (HIx 1) (Elt F) ℕ UU ℕ

abbrev EH : Emb UH (MT nD τ sig (HIx 1) (Elt F) ℕ UU ℕ) := embL
abbrev ER : Emb UQ (MT nD τ sig (HIx 1) (Elt F) ℕ UU ℕ) := embR
/-- The region's rounds inside the algebra. -/
def EP : Emb UP (MT nD τ sig (HIx 1) (Elt F) ℕ UU ℕ) := (Emb.inl : Emb UP UQ).trans ER
/-- The pipeline's ghost state lies in the part that invariants may store. -/
instance EP_lands : (EP (F := F)).LandsIn (upEmb : UEmb _ 𝕄) := by unfold EP; infer_instance

/-- The arrays as locations of device `d`: the flattened input, the thresholds, the table and the result. -/
abbrev iLoc (d : Dev nD) : Loc nD τ sig := (SparseCore.T d).loc main_v1
abbrev mLoc (d : Dev nD) : Loc nD τ sig := (SparseCore.T d).loc main_v2
abbrev tLoc (d : Dev nD) : Loc nD τ sig := (SparseCore.T d).loc main_v4
abbrev oLoc (d : Dev nD) : Loc nD τ sig := (SparseCore.T d).loc main_v5

end Cert.Proof.Enc

end
-- ==== Proof.Vals.lean ====
/-
  What one tile computes, as functions: the quantised word of an input value, the table of a tile's quantised words with
  its six padding columns, how many words of a sample lie below a threshold, and what each inner loop leaves in its
  buffer after some of its trips.
-/
module

public import proofs.«01_k».proof.Proof.Setup

@[expose] public section

noncomputable section

namespace Cert.Proof.Enc

open Cert.KernelIdeal Cert.KernelIdeal.Gen
open Idealize.ShloMosaic

variable {F : FTy → Type} [FloatOps F]

/-! ## The offsets the loops address -/

/-- Where a tile's inputs begin. -/
theorem off1_eq : ∀ i : grid1.Coords, k1_off1 i = ![832 * (2 * (i 1).val + (i 0).val)] := by decide +kernel
/-- Where a trip of the quantising loop reads. -/
theorem off2_eq : ∀ t : Fin k1_t2_loop.trips, k1_off2 t = ![16 * t.val] := by decide +kernel
/-- Where a trip of the clearing loop writes. -/
theorem off3_eq : ∀ t : Fin k1_t4_loop.trips, k1_off3 t = ![16 * t.val] := by decide +kernel
/-- Where a sample's first 16 indices lie. -/
theorem off4_eq : ∀ t : Fin k1_t3_loop.trips, k1_off4 t = ![t.val, 0] := by decide +kernel
/-- Where its other 16 indices lie. -/
theorem off5_eq : ∀ t : Fin k1_t3_loop.trips, k1_off5 t = ![t.val, 16] := by decide +kernel
/-- Where a trip of the running sum reads and writes. -/
theorem off6_eq : ∀ t : Fin k1_t5_loop.trips, k1_off6 t = ![16 * t.val] := by decide +kernel
/-- Where a trip of the output loop reads its thresholds. -/
theorem off7_eq : ∀ t : Fin k1_t6_loop.trips, k1_off7 t = ![16 * t.val] := by decide +kernel
/-- Where a trip of the output loop writes. -/
theorem off8_eq : ∀ t : Fin k1_t6_loop.trips, k1_off8 t = ![16 * t.val] := by decide +kernel
/-- Where a sample's row of the output lies. -/
theorem off9_eq : ∀ (i : grid1.Coords) (t : Fin k1_t3_loop.trips),
    k1_off9 i t = ![32 * (2 * (i 1).val + (i 0).val) + t.val, 0] := by decide +kernel

/-- The padding loop makes 64 trips. -/
theorem trips1 : k1_t1_loop.trips = 64 := by decide +kernel
/-- The quantising loop makes 52 trips. -/
theorem trips2 : k1_t2_loop.trips = 52 := by decide +kernel
/-- A tile has 32 samples. -/
theorem trips3 : k1_t3_loop.trips = 32 := by decide +kernel
/-- The clearing loop makes 63 trips. -/
theorem trips4 : k1_t4_loop.trips = 63 := by decide +kernel
/-- The running sum makes 63 trips. -/
theorem trips5 : k1_t5_loop.trips = 63 := by decide +kernel
/-- The output loop makes 256 trips. -/
theorem trips6 : k1_t6_loop.trips = 256 := by decide +kernel

/-! ## The quantised words -/

/-- The word the program makes of one input value: its scaled, rounded and clipped level. -/
def quant (x : F .f32) : BitVec 32 := k1_pay12 (fun _ => x) (lane 0)

/-- The quantising payload is `quant` lane by lane. -/
theorem pay12_apply (v : Vec F S16 .f32) (k : Fin 16) : k1_pay12 v (lane k) = quant (v (lane k)) := rfl

/-- A word clipped to 0 … 999 is at most 999. -/
theorem clip_le (y : BitVec 32) : (IntOp.minsi 999#32 (IntOp.maxsi 0#32 y)).toNat ≤ 999 := by
  unfold IntOp.minsi IntOp.maxsi
  simp only [BitVec.slt, decide_eq_true_eq]
  have h9 : (999#32 : BitVec 32).toInt = 999 := by decide
  have h0 : (0#32 : BitVec 32).toInt = 0 := by decide
  have hy := y.isLt
  have hi := BitVec.toInt_eq_toNat_cond y
  split_ifs with h1 h2 h2
  · decide
  · decide
  · rfl
  · rw [h9] at h2
    rw [h0] at h1
    split_ifs at hi <;> omega

/-- A quantised word is at most 999. -/
theorem quant_le (x : F .f32) : (quant x).toNat ≤ 999 := clip_le _

/-- The element of a vector of length `n` at position `k`. -/
abbrev at1 {n : Nat} (k : Nat) (h : k < n) : (⟨1, ![n]⟩ : Shape).Idx := Shape.ofLane (d := ![n]) ⟨k, h⟩

/-- Equal coordinates are equal places. -/
theorem at1_congr {n a b : Nat} (e : a = b) (h : a < n) (h' : b < n) : at1 (n := n) a h = at1 b h' := by
  subst e; rfl

/-- A place of a flat array is the place of its coordinate. -/
theorem at1_eq {n : Nat} (x : (⟨1, ![n]⟩ : Shape).Idx) : x = at1 (x 0).val (x 0).isLt := by
  funext a
  obtain rfl : a = 0 := Fin.eq_zero a
  rfl

/-- The tile's table of words: row `r`, column `c` is feature `c` of sample `r` quantised, and the padding word 1000 past the 26
    features. -/
def tab (X : S832.Idx → F .f32) (r c : Nat) : BitVec 32 :=
  if h : c < 26 ∧ r < 32 then quant (X (at1 (n := 832) (26 * r + c) (by omega))) else 1000#32

/-- How many of row `r`'s words lie below `l`. -/
def below (X : S832.Idx → F .f32) (r l : Nat) : Nat := (Finset.univ.filter fun c : Fin 32 => (tab X r c.val).toNat < l).card

/-- The padding lanes hold level 1000. -/
theorem tab_pad (X : S832.Idx → F .f32) (r c : Nat) (h : 26 ≤ c) : tab X r c = 1000#32 := dif_neg (by omega)

/-- An index is at most 1000, so it names a bin. -/
theorem tab_le (X : S832.Idx → F .f32) (r c : Nat) : (tab X r c).toNat ≤ 1000 := by
  unfold tab
  split_ifs
  · exact (quant_le _).trans (by decide)
  · decide

/-- No index is below 0. -/
theorem below_zero (X : S832.Idx → F .f32) (r : Nat) : below X r 0 = 0 := by
  unfold below; simp

/-- One threshold further, the words equal to the threshold join. -/
theorem below_succ (X : S832.Idx → F .f32) (r l : Nat) :
    below X r (l + 1) = below X r l + (Finset.univ.filter fun c : Fin 32 => (tab X r c.val).toNat = l).card := by
  unfold below
  rw [← Finset.card_union_of_disjoint]
  · congr 1
    ext c
    simp only [Finset.mem_filter, Finset.mem_univ, true_and, Finset.mem_union]
    omega
  · rw [Finset.disjoint_filter]
    intro c _ h; omega

/-- Below a threshold of at most 1000 lie features only: at most 26 words. -/
theorem below_le (X : S832.Idx → F .f32) (r l : Nat) (hl : l ≤ 1000) : below X r l ≤ 26 := by
  unfold below
  refine (Finset.card_le_card (t := (Finset.univ : Finset (Fin 26)).map ⟨fun c => (⟨c.val, by omega⟩ : Fin 32), fun a b h => Fin.ext (Fin.mk.inj h)⟩) ?_).trans (by simp)
  intro c hc
  rw [Finset.mem_filter] at hc
  rw [Finset.mem_map]
  by_cases h26 : c.val < 26
  · exact ⟨⟨c.val, h26⟩, Finset.mem_univ _, rfl⟩
  · have h2 := hc.2
    rw [tab_pad X r c.val (by omega)] at h2
    exact absurd h2 (by rw [show (1000#32 : BitVec 32).toNat = 1000 from rfl]; omega)

/-! ## What the loops leave -/

/-- The padding word fills the first `n` positions. -/
def Filled (n : Nat) (g : S32x32.Idx → BitVec 32) : Prop := ∀ j : S32x32.Idx, 32 * (j 0).val + (j 1).val < n → g j = 1000#32

/-- Before the first trip nothing is claimed of the places. -/
theorem filled_zero (g : S32x32.Idx → BitVec 32) : Filled 0 g := fun _ h => absurd h (Nat.not_lt_zero _)

/-- One trip of the filling loop. -/
theorem filled_step (t : Fin k1_t1_loop.trips) (g : Vec F S32x32 .i32) (h : ∀ a x, ((![k1_pay3 t, k1_pay4 t] : Fin 2 → IVec S16 32) a x).toNat < S32x32.size a)
    (hg : Filled (16 * t.val) g) : Filled (16 * (t.val + 1)) (storeIdx (F := F) (s := S32x32) (e := .i32) (d := ![16]) g ![k1_pay3 t, k1_pay4 t] k1_pay1 (fun _ => 1#1) false h) := by
  intro j hj
  by_cases hlt : 32 * (j 0).val + (j 1).val < 16 * t.val
  · by_cases hm : ∀ k : Fin 16, ¬ ∀ a, (j a).val = ((![k1_pay3 t, k1_pay4 t] : Fin 2 → IVec S16 32) a (lane k)).toNat
    · exact (storeIdx_of_not (s := S32x32) (d := ![16]) .i32 g _ k1_pay1 h j hm).trans (hg j hlt)
    · push Not at hm
      obtain ⟨k, hk⟩ := hm
      exact storeIdx_of_mem (s := S32x32) (d := ![16]) .i32 g _ k1_pay1 h j 1000#32 k hk (fun _ _ => rfl)
  · have h1 : (j 1).val < 32 := (j 1).isLt
    obtain ⟨k, hk⟩ : ∃ k : Fin 16, k.val = 32 * (j 0).val + (j 1).val - 16 * t.val := ⟨⟨_, by omega⟩, rfl⟩
    refine storeIdx_of_mem (s := S32x32) (d := ![16]) .i32 g _ k1_pay1 h j 1000#32 k ?_ (fun _ _ => rfl)
    refine Fin.forall_fin_two.mpr ⟨?_, ?_⟩
    · exact (show (j 0).val = (16 * t.val + k.val) / 32 from by omega).trans (fill_row t _).symm
    · exact (show (j 1).val = (16 * t.val + k.val) % 32 from by omega).trans (fill_col t _).symm

/-- The padding columns hold the padding word and the features among the first `n` positions their quantised words. -/
def Fed (X : S832.Idx → F .f32) (n : Nat) (g : S32x32.Idx → BitVec 32) : Prop :=
  ∀ j : S32x32.Idx, (26 ≤ (j 1).val ∨ 26 * (j 0).val + (j 1).val < n) → g j = tab X (j 0).val (j 1).val

/-- A table filled with the padding word is fed to length zero. -/
theorem fed_zero (X : S832.Idx → F .f32) (g : S32x32.Idx → BitVec 32) (hg : Filled (16 * 64) g) : Fed X 0 g := by
  intro j hj
  have h0 : (j 0).val < 32 := (j 0).isLt
  have h1 : (j 1).val < 32 := (j 1).isLt
  rw [hg j (by omega), tab_pad X _ _ (by omega)]

/-- One trip of the quantising loop. -/
theorem fed_step (X : S832.Idx → F .f32) (t : Fin k1_t2_loop.trips) (g : Vec F S32x32 .i32) (v : Vec F S16 .f32)
    (hv : ∀ k : Fin 16, ∀ hk, v (lane k) = X (at1 (n := 832) (16 * t.val + k.val) hk)) (x y : IVec S16 32)
    (hx : ∀ k : Fin 16, (x (lane k)).toNat = (16 * t.val + k.val) / 26) (hy : ∀ k : Fin 16, (y (lane k)).toNat = (16 * t.val + k.val) % 26)
    (h : ∀ a k, ((![x, y] : Fin 2 → IVec S16 32) a k).toNat < S32x32.size a)
    (hg : Fed X (16 * t.val) g) : Fed X (16 * (t.val + 1)) (storeIdx (F := F) (s := S32x32) (e := .i32) (d := ![16]) g ![x, y] (k1_pay12 v) (fun _ => 1#1) false h) := by
  have ht : t.val < 52 := trips2 ▸ t.isLt
  -- a lane that names `j` names a feature position
  have key : ∀ (j : S32x32.Idx) (k : Fin 16), (∀ a, (j a).val = ((![x, y] : Fin 2 → IVec S16 32) a (lane k)).toNat) →
      (j 1).val < 26 ∧ 26 * (j 0).val + (j 1).val = 16 * t.val + k.val := by
    intro j k hk
    have e0 : (j 0).val = (16 * t.val + k.val) / 26 := (hk 0).trans (hx k)
    have e1 : (j 1).val = (16 * t.val + k.val) % 26 := (hk 1).trans (hy k)
    omega
  intro j hj
  have h0 : (j 0).val < 32 := (j 0).isLt
  have hw : ∀ k : Fin 16, (∀ a, (j a).val = ((![x, y] : Fin 2 → IVec S16 32) a (lane k)).toNat) → k1_pay12 v (lane k) = tab X (j 0).val (j 1).val := by
    intro k hk
    obtain ⟨h26, e⟩ := key j k hk
    rw [pay12_apply, hv k (by omega), tab, dif_pos ⟨h26, h0⟩]
    exact congrArg (fun i => quant (X i)) (at1_congr e.symm _ _)
  by_cases hm : ∀ k : Fin 16, ¬ ∀ a, (j a).val = ((![x, y] : Fin 2 → IVec S16 32) a (lane k)).toNat
  · refine (storeIdx_of_not (s := S32x32) (d := ![16]) .i32 g _ _ h j hm).trans (hg j ?_)
    by_contra hc
    push Not at hc
    obtain ⟨k, hk⟩ : ∃ k : Fin 16, k.val = 26 * (j 0).val + (j 1).val - 16 * t.val := ⟨⟨_, by omega⟩, rfl⟩
    refine hm k (Fin.forall_fin_two.mpr ⟨?_, ?_⟩)
    · exact (show (j 0).val = (16 * t.val + k.val) / 26 from by omega).trans (hx _).symm
    · exact (show (j 1).val = (16 * t.val + k.val) % 26 from by omega).trans (hy _).symm
  · push Not at hm
    obtain ⟨k, hk⟩ := hm
    exact storeIdx_of_mem (s := S32x32) (d := ![16]) .i32 g _ _ h j _ k hk hw

/-- The first `n` cells are zero. -/
def Zeroed (n : Nat) (g : S1008.Idx → BitVec 32) : Prop := ∀ j : S1008.Idx, (j 0).val < n → g j = 0#32

/-- The histogram of row `r`: each cell holds how many of the row's words name it. -/
def Counted (X : S832.Idx → F .f32) (r : Nat) (g : S1008.Idx → BitVec 32) : Prop :=
  ∀ j : S1008.Idx, g j = BitVec.ofNat 32 (Finset.univ.filter fun c : Fin 32 => (tab X r c.val).toNat = (j 0).val).card

/-- The two scatter adds over a zeroed histogram count the row. -/
theorem counted_of_adds (X : S832.Idx → F .f32) (r : Nat) (g : Vec F S1008 .i32) (x y : IVec S16 32)
    (hx : ∀ k : Fin 16, x (lane k) = tab X r k.val) (hy : ∀ k : Fin 16, y (lane k) = tab X r (16 + k.val))
    (h : ∀ a k, ((![x] : Fin 1 → IVec S16 32) a k).toNat < S1008.size a) (h' : ∀ a k, ((![y] : Fin 1 → IVec S16 32) a k).toNat < S1008.size a)
    (hg : Zeroed (16 * 63) g) :
    Counted X r (storeIdx (F := F) (s := S1008) (e := .i32) (d := ![16])
      (storeIdx (F := F) (s := S1008) (e := .i32) (d := ![16]) g ![x] k1_pay7 (fun _ => 1#1) true h) ![y] k1_pay7 (fun _ => 1#1) true h') := by
  intro j
  rw [storeIdx_add (d := ![16]) (n := ![1008]) _ y k1_pay7 (fun _ => rfl) h' j, storeIdx_add (d := ![16]) (n := ![1008]) _ x k1_pay7 (fun _ => rfl) h j,
    hg j (j 0).isLt]
  have e : (Finset.univ.filter fun c : Fin 32 => (tab X r c.val).toNat = (j 0).val).card
      = (Finset.univ.filter fun k : Fin 16 => (x (lane k)).toNat = (j 0).val).card + (Finset.univ.filter fun k : Fin 16 => (y (lane k)).toNat = (j 0).val).card := by
    simp only [Finset.card_filter, hx, hy]
    exact Fin.sum_univ_add (a := 16) (b := 16) _
  rw [e, BitVec.ofNat_add, BitVec.zero_add]
  rfl

/-- The word the scan writes at threshold `l`: the features not below it, as a row offset into the table. -/
def rowWord (X : S832.Idx → F .f32) (r l : Nat) : BitVec 32 := (26#32 - BitVec.ofNat 32 (below X r l)) * 4096#32

/-- The first `n` thresholds hold their row offsets. -/
def Summed (X : S832.Idx → F .f32) (r n : Nat) (g : S1008.Idx → BitVec 32) : Prop :=
  ∀ j : S1008.Idx, (j 0).val < n → g j = rowWord X r (j 0).val

/-- Sixteen cells of the histogram are the steps of the count below. -/
theorem steps_of_counted (X : S832.Idx → F .f32) (r b : Nat) (g : S1008.Idx → BitVec 32) (hg : Counted X r g) (v : IVec S16 32)
    (hv : ∀ k : Fin 16, ∀ hk, v (lane k) = g (at1 (n := 1008) (b + k.val) hk)) (hb : b + 16 ≤ 1008) (k : Fin 16) :
    v (lane k) = BitVec.ofNat 32 (below X r (b + (k.val + 1))) - BitVec.ofNat 32 (below X r (b + k.val)) := by
  rw [hv k (by omega), hg, ← Nat.add_assoc, below_succ, BitVec.ofNat_add]
  show BitVec.ofNat 32 _ = _
  rw [show ((at1 (n := 1008) (b + k.val) (by omega) : S1008.Idx) 0).val = b + k.val from rfl]
  generalize BitVec.ofNat 32 _ = p
  generalize BitVec.ofNat 32 _ = q
  bv_omega

/-- The scanning payload writes the row offsets of its sixteen thresholds; -/
theorem pay9_lane (X : S832.Idx → F .f32) (r b : Nat) (g : S1008.Idx → BitVec 32) (hg : Counted X r g) (v : Vec F S16 .i32)
    (hv : ∀ k : Fin 16, ∀ hk, v (lane k) = g (at1 (n := 1008) (b + k.val) hk)) (hb : b + 16 ≤ 1008) (k : Fin 16) :
    k1_pay9 (BitVec.ofNat 32 (below X r b)) v (lane k) = rowWord X r (b + k.val) := by
  have hs := steps_of_counted X r b g hg v hv hb
  have e1 := scan_steps v (fun n => BitVec.ofNat 32 (below X r (b + n))) hs k.val k.isLt
  have e2 := hs k
  show ((26#32 - BitVec.ofNat 32 (below X r b)) - (scan (d := ![16]) .sum v (lane k) - v (lane k))) * 4096#32 = _
  unfold rowWord
  congr 1
  rw [show scan (d := ![16]) .sum v (lane k) = _ from e1, e2]
  simp only [Nat.add_zero]
  generalize BitVec.ofNat 32 _ = p
  generalize BitVec.ofNat 32 _ = q
  generalize BitVec.ofNat 32 _ = s
  bv_omega

/-- and the carry out of a trip is the count below the next trip's first threshold. -/
theorem carry_next (X : S832.Idx → F .f32) (r b : Nat) (g : S1008.Idx → BitVec 32) (hg : Counted X r g) (v : Vec F S16 .i32)
    (hv : ∀ k : Fin 16, ∀ hk, v (lane k) = g (at1 (n := 1008) (b + k.val) hk)) (hb : b + 16 ≤ 1008) :
    Scalar.addi (BitVec.ofNat 32 (below X r b)) (extractAt ![15] (k1_pay10 v) inpos_S16_p15) = BitVec.ofNat 32 (below X r (b + 16)) := by
  have hs := steps_of_counted X r b g hg v hv hb
  have e1 := scan_steps v (fun n => BitVec.ofNat 32 (below X r (b + n))) hs 15 (by decide)
  have e : extractAt ![15] (k1_pay10 v) inpos_S16_p15 = scan (d := ![16]) .sum v (lane ⟨15, by decide⟩) :=
    congrArg (scan (d := ![16]) .sum v) (lane_eq fun a => ⟨(![15] : Fin 1 → Nat) a, inpos_S16_p15 a⟩)
  rw [e, e1]
  show _ + _ = _
  simp only [Nat.add_zero]
  generalize BitVec.ofNat 32 _ = p
  generalize BitVec.ofNat 32 _ = q
  bv_omega

/-- The table's cell for `c` features at or above their threshold, column `col`. -/
abbrev cellAt (c col : Nat) (h : c * 4096 + col < 110592) : S110592.Idx := at1 (n := 110592) (c * 4096 + col) h

/-- The first `n` columns of the row hold the table's cells their counts name. -/
def Rowed (X : S832.Idx → F .f32) (M : S4096.Idx → BitVec 32) (Tb : S110592.Idx → F .f32) (r n : Nat) (g : S4096.Idx → F .f32) : Prop :=
  ∀ j : S4096.Idx, (j 0).val < n → ∀ h, g j = Tb (cellAt (26 - below X r (M j).toNat) (j 0).val h)

/-- A row offset as a number, for a threshold of at most 999. -/
theorem rowWord_toNat (X : S832.Idx → F .f32) (r l : Nat) (hl : l ≤ 999) : (rowWord X r l).toNat = (26 - below X r l) * 4096 := by
  have hb := below_le X r l (by omega)
  unfold rowWord
  generalize below X r l = b at hb
  have : (26#32 - BitVec.ofNat 32 b) = BitVec.ofNat 32 (26 - b) := by bv_omega
  rw [this, BitVec.toNat_mul, BitVec.toNat_ofNat]
  rw [show (4096#32 : BitVec 32).toNat = 4096 from rfl]
  rw [Nat.mod_eq_of_lt (a := 26 - b) (by omega), Nat.mod_eq_of_lt (by omega)]

/-- The gather's address word: the row offset at the column's threshold plus the column. -/
theorem pay11_toNat (X : S832.Idx → F .f32) (r : Nat) (t : Fin k1_t6_loop.trips) (v : Vec F S16 .i32) (k : Fin 16) (l : Nat) (hl : l ≤ 999)
    (hv : v (lane k) = rowWord X r l) : (k1_pay11 t v (lane k)).toNat = (26 - below X r l) * 4096 + (16 * t.val + k.val) := by
  have ht : t.val < 256 := trips6 ▸ t.isLt
  have e : k1_pay11 t v (lane k) = v (lane k) + BitVec.ofNat 32 (16 * t.val + k.val) := by
    rw [← col_word t k]
    show _ + _ = _ + (0#32 + _)
    rw [BitVec.zero_add]
  rw [e, hv, BitVec.toNat_add, rowWord_toNat X r l hl, BitVec.toNat_ofNat, Nat.mod_eq_of_lt (a := 16 * t.val + k.val) (by omega)]
  have := below_le X r l (by omega)
  exact Nat.mod_eq_of_lt (by omega)

end Cert.Proof.Enc

end
-- ==== Proof.Loops.lean ====
/-
  One trip of each of the tile's inner loops, as a step of that loop's invariant: the buffers the trip reads and writes,
  with what they hold before and after it.
-/
module

public import proofs.«01_k».proof.Proof.Vals
public import Idealize.ShloMosaic.Lib.WritesUnit
public import Idealize.ShloMosaic.Lib.SparseCore.Ops

@[expose] public section

noncomputable section

namespace Cert.Proof.Enc

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

/-! ## The tile's arrays and buffers, whole -/

abbrev iV : Memref sig .scVector .hbm S26624 .f32 := Memref.whole main_v1_scv
abbrev mV : Memref sig .scVector .hbm S4096 .i32 := Memref.whole main_v2_scv
abbrev tV : Memref sig .scVector .hbm S110592 .f32 := Memref.whole main_v4_scv
abbrev oV : Memref sig .scVector .hbm S1024x4096 .f32 := Memref.whole main_v5_scv
abbrev sI : Memref sig .scVector .vmem S832 .f32 := Memref.whole cc1_scratch0
abbrev sX : Memref sig .scVector .vmem S32x32 .i32 := Memref.whole cc1_scratch1
abbrev sM : Memref sig .scVector .vmem S4096 .i32 := Memref.whole cc1_scratch2
abbrev sT : Memref sig .scVector .vmem S110592 .f32 := Memref.whole cc1_scratch3
abbrev sH : Memref sig .scVector .vmem S1008 .i32 := Memref.whole cc1_scratch4
abbrev sS : Memref sig .scVector .vmem S1008 .i32 := Memref.whole cc1_scratch5
abbrev sO : Memref sig .scVector .vmem S4096 .f32 := Memref.whole cc1_scratch6

/-- The SparseCore and the tile of a grid coordinate. -/
abbrev cV (L : grid1.Coords) : Fin τ.nSC := (L 0).castLE hcore1
abbrev jV (L : grid1.Coords) : Fin τ.nSub := (L 1).castLE hsub1

variable [FloatOps F] (d : Dev nD) (L : grid1.Coords)

/-- The loops' bodies over the tile's arrays and buffers. -/
abbrev fillBody := k1_t1_body (F := F) L iV (Memref.isWhole_whole _) mV (Memref.isWhole_whole _) tV (Memref.isWhole_whole _) oV (Memref.isWhole_whole _)
  sI (Memref.isWhole_whole _) sX (Memref.isWhole_whole _) sM (Memref.isWhole_whole _) sT (Memref.isWhole_whole _) sH (Memref.isWhole_whole _)
  sS (Memref.isWhole_whole _) sO (Memref.isWhole_whole _) cc1_scratch7 cc1_scoped0 cc1_scoped1 cc1_scoped2 cc1_scoped3
abbrev feedBody := k1_t2_body (F := F) L iV (Memref.isWhole_whole _) mV (Memref.isWhole_whole _) tV (Memref.isWhole_whole _) oV (Memref.isWhole_whole _)
  sI (Memref.isWhole_whole _) sX (Memref.isWhole_whole _) sM (Memref.isWhole_whole _) sT (Memref.isWhole_whole _) sH (Memref.isWhole_whole _)
  sS (Memref.isWhole_whole _) sO (Memref.isWhole_whole _) cc1_scratch7 cc1_scoped0 cc1_scoped1 cc1_scoped2 cc1_scoped3 lanes
abbrev zeroBody := k1_t4_body (F := F) L iV (Memref.isWhole_whole _) mV (Memref.isWhole_whole _) tV (Memref.isWhole_whole _) oV (Memref.isWhole_whole _)
  sI (Memref.isWhole_whole _) sX (Memref.isWhole_whole _) sM (Memref.isWhole_whole _) sT (Memref.isWhole_whole _) sH (Memref.isWhole_whole _)
  sS (Memref.isWhole_whole _) sO (Memref.isWhole_whole _) cc1_scratch7 cc1_scoped0 cc1_scoped1 cc1_scoped2 cc1_scoped3
abbrev sumBody := k1_t5_body (F := F) L iV (Memref.isWhole_whole _) mV (Memref.isWhole_whole _) tV (Memref.isWhole_whole _) oV (Memref.isWhole_whole _)
  sI (Memref.isWhole_whole _) sX (Memref.isWhole_whole _) sM (Memref.isWhole_whole _) sT (Memref.isWhole_whole _) sH (Memref.isWhole_whole _)
  sS (Memref.isWhole_whole _) sO (Memref.isWhole_whole _) cc1_scratch7 cc1_scoped0 cc1_scoped1 cc1_scoped2 cc1_scoped3
abbrev rowBody := k1_t6_body (F := F) L iV (Memref.isWhole_whole _) mV (Memref.isWhole_whole _) tV (Memref.isWhole_whole _) oV (Memref.isWhole_whole _)
  sI (Memref.isWhole_whole _) sX (Memref.isWhole_whole _) sM (Memref.isWhole_whole _) sT (Memref.isWhole_whole _) sH (Memref.isWhole_whole _)
  sS (Memref.isWhole_whole _) sO (Memref.isWhole_whole _) cc1_scratch7 cc1_scoped0 cc1_scoped1 cc1_scoped2 cc1_scoped3

/-! ## Sixteen lanes of a vector stored and loaded -/

section Lanes
variable {κ : Kind} {sp : Space} {n : Nat} {e : EltTy} (v : View sig κ sp ⟨1, ![n]⟩ e) (f : v.ty.Contents (Elt F))

omit [FloatOps F] in
/-- An element among the stored sixteen reads its lane; -/
theorem stored_mem {off : Fin 1 → Nat} {b : Nat} (inb : ∀ a, off a + S16.size a ≤ (![n] : Fin 1 → Nat) a) (w : S16.Idx → Elt F e)
    (j : (⟨1, ![n]⟩ : Shape).Idx) (heq : off = ![b]) (i : Fin 16) (hi : (j 0).val = b + i.val) :
    v.read (Elt F) (v.writes (Elt F) f [⟨Rect.unit (s := ⟨1, ![n]⟩) off S16.size inb, w⟩]) j = w (lane i) := by
  refine View.read_writes_cons_unit_of_mem (Val := Elt F) v f inb w [] j (lane i) heq ?_
  intro a
  obtain rfl : a = 0 := Fin.eq_zero a
  exact hi

omit [FloatOps F] in
/-- any other reads what was there. -/
theorem stored_not_mem {off : Fin 1 → Nat} {b : Nat} (inb : ∀ a, off a + S16.size a ≤ (![n] : Fin 1 → Nat) a) (w : S16.Idx → Elt F e)
    (j : (⟨1, ![n]⟩ : Shape).Idx) (heq : off = ![b]) (hi : (j 0).val < b) :
    v.read (Elt F) (v.writes (Elt F) f [⟨Rect.unit (s := ⟨1, ![n]⟩) off S16.size inb, w⟩]) j = v.read (Elt F) f j :=
  View.read_writes_cons_unit_of_not_mem (Val := Elt F) v f inb w [] j heq 0 (.inl hi)

omit [FloatOps F] in
/-- A load of sixteen lanes reads them where they lie. -/
theorem loaded {off : Fin 1 → Nat} {b : Nat} (inb : ∀ a, off a + S16.size a ≤ (![n] : Fin 1 → Nat) a) (heq : off = ![b]) (i : Fin 16) (hi : b + i.val < n) :
    v.readAt (Elt F) (Rect.unit (s := ⟨1, ![n]⟩) off S16.size inb).toLoadRect f (lane i) = v.read (Elt F) f (at1 (n := n) (b + i.val) hi) := by
  subst heq
  rw [View.readAt_apply]
  refine congrArg (v.read (Elt F) f) (funext fun a => Fin.ext ?_)
  obtain rfl : a = 0 := Fin.eq_zero a
  show b + 1 * i.val = b + i.val
  omega

end Lanes

/-! ## Zeroing the histogram -/

/-- Sixteen zeros stored past `16 k` zeros. -/
theorem zeroed_step (k : Fin k1_t4_loop.trips) (f : Vec F S1008 .i32) (hf : Zeroed (16 * k.val) f) :
    Zeroed (16 * (k.val + 1)) ((sH).view.writes (Elt F) f [⟨Rect.unit (s := S1008) (k1_off3 k) S16.size (k1_off3_inb k), k1_pay8⟩]) := by
  intro j hj
  by_cases hlt : (j 0).val < 16 * k.val
  · exact (stored_not_mem (F := F) (n := 1008) (sH).view f _ _ j (off3_eq k) hlt).trans (hf j hlt)
  · obtain ⟨i, hi⟩ : ∃ i : Fin 16, i.val = (j 0).val - 16 * k.val := ⟨⟨_, by omega⟩, rfl⟩
    exact (stored_mem (F := F) (n := 1008) (sH).view f _ k1_pay8 j (off3_eq k) i (by omega)).trans rfl

/-- One trip of the clearing loop sets 16 more bins to zero. -/
theorem zero_trip (k : Fin k1_t4_loop.trips) (r : BitVec 32) :
    iprop(∃ f : Vec F S1008 .i32, ⌜Zeroed (16 * k.val) f⌝ ∗ ((sH).view.loc (V d (cV L) (jV L)) ↦{fullShare} f : sProp 𝕄))
     ⊢ wp frame (wpE (defs₀ (F := F)) 𝒱₀ (V d (cV L) (jV L)) none) Set.univ (zeroBody (F := F) L k r)
        fun _ => iprop(∃ f : Vec F S1008 .i32, ⌜Zeroed (16 * (k.val + 1)) f⌝ ∗ ((sH).view.loc (V d (cV L) (jV L)) ↦{fullShare} f : sProp 𝕄)) := by
  iintro ⟨%f, %hf, H⟩
  sl_unfold [zeroBody, k1_t4_body]
  sl_exec
  sl_step
  iexists _
  isplitr [H]
  · ipureintro
    exact zeroed_step k f hf
  · iexact H

/-! ## The running sum -/

/-- Sixteen row offsets stored past `16 k` of them. -/
theorem summed_step (X : S832.Idx → F .f32) (row : Nat) (k : Fin k1_t5_loop.trips) (f : Vec F S1008 .i32) (hf : Summed X row (16 * k.val) f)
    (w : S16.Idx → BitVec 32) (hw : ∀ i : Fin 16, w (lane i) = rowWord X row (16 * k.val + i.val)) :
    Summed X row (16 * (k.val + 1)) ((sS).view.writes (Elt F) f [⟨Rect.unit (s := S1008) (k1_off6 k) S16.size (k1_off6_inb k), w⟩]) := by
  intro j hj
  by_cases hlt : (j 0).val < 16 * k.val
  · exact (stored_not_mem (F := F) (n := 1008) (e := .i32) (sS).view f _ _ j (off6_eq k) hlt).trans (hf j hlt)
  · obtain ⟨i, hi⟩ : ∃ i : Fin 16, i.val = (j 0).val - 16 * k.val := ⟨⟨_, by omega⟩, rfl⟩
    refine ((stored_mem (F := F) (n := 1008) (e := .i32) (sS).view f _ w j (off6_eq k) i (by omega)).trans (hw i)).trans ?_
    rw [show 16 * k.val + i.val = (j 0).val by omega]

/-- One trip of the running sum: 16 more levels get 26 less the features below them, as a row offset, and the carry grows by their bins. -/
theorem sum_trip (X : S832.Idx → F .f32) (row : Nat) (h : Vec F S1008 .i32) (hh : Counted X row h) (k : Fin k1_t5_loop.trips) (r : BitVec 32) :
    iprop(⌜r = BitVec.ofNat 32 (below X row (16 * k.val))⌝ ∗ ((sH).view.loc (V d (cV L) (jV L)) ↦{fullShare} h : sProp 𝕄)
      ∗ ∃ f : Vec F S1008 .i32, ⌜Summed X row (16 * k.val) f⌝ ∗ ((sS).view.loc (V d (cV L) (jV L)) ↦{fullShare} f : sProp 𝕄))
     ⊢ wp frame (wpE (defs₀ (F := F)) 𝒱₀ (V d (cV L) (jV L)) none) Set.univ (sumBody (F := F) L k r)
        fun r' => iprop(⌜r' = BitVec.ofNat 32 (below X row (16 * (k.val + 1)))⌝ ∗ ((sH).view.loc (V d (cV L) (jV L)) ↦{fullShare} h : sProp 𝕄)
      ∗ ∃ f : Vec F S1008 .i32, ⌜Summed X row (16 * (k.val + 1)) f⌝ ∗ ((sS).view.loc (V d (cV L) (jV L)) ↦{fullShare} f : sProp 𝕄)) := by
  iintro ⟨%hr, Hh, %f, %hf, H⟩
  sl_unfold [sumBody, k1_t5_body]
  sl_exec
  sl_step
  have hk : k.val < 63 := trips5 ▸ k.isLt
  have hv : ∀ i : Fin 16, ∀ hi, (sH).view.readAt (Elt F) (Rect.unit (s := S1008) (k1_off6 k) S16.size (k1_off6_inb k)).toLoadRect h (lane i)
      = h (at1 (n := 1008) (16 * k.val + i.val) hi) := fun i hi => loaded (F := F) (n := 1008) (sH).view h _ (off6_eq k) i hi
  subst hr
  isplitr
  · ipureintro
    exact carry_next X row _ h hh _ hv (by omega)
  isplitl [Hh]; · iexact Hh
  iexists _
  isplitr [H]
  · ipureintro
    exact summed_step X row k f hf _ (fun i => pay9_lane X row _ h hh _ hv (by omega) i)
  · iexact H

/-! ## Filling the table of words with padding -/

omit [FloatOps F] in
theorem pts_sX (f : Vec F S32x32 .i32) : (((sX).access (.whole S32x32)).loc (V d (cV L) (jV L)) ↦[((sX).access (.whole S32x32)).set]{fullShare} f : sProp 𝕄)
    = ((sX).view.loc (V d (cV L) (jV L)) ↦{fullShare} f) :=
  congrArg (fun A => (((sX).access (.whole S32x32)).loc (V d (cV L) (jV L)) ↦[A]{fullShare} f : sProp 𝕄)) (Memref.set_access_whole cc1_scratch1)

omit [FloatOps F] in
theorem pts_sX_new (f w : Vec F S32x32 .i32) : (((sX).access (.whole S32x32)).loc (V d (cV L) (jV L)) ↦[((sX).access (.whole S32x32)).set]{fullShare} (((sX).access (.whole S32x32)).write (Elt F) f w Finset.univ) : sProp 𝕄)
    = ((sX).view.loc (V d (cV L) (jV L)) ↦{fullShare} w) :=
  (pts_sX (F := F) d L _).trans (congrArg (fun g => ((sX).view.loc (V d (cV L) (jV L)) ↦{fullShare} g : sProp 𝕄)) (Memref.write_access_whole_univ (Elt F) cc1_scratch1 f w))

omit [FloatOps F] in
theorem read_sX (f : Vec F S32x32 .i32) : ((sX).access (.whole S32x32)).read (Elt F) f = f := Memref.read_access_whole (Elt F) cc1_scratch1 f

/-- The padding loop stores within the index table. -/
theorem fill_inb (k : Fin k1_t1_loop.trips) : k1_chk1 (k1_pay3 k) (k1_pay4 k) := by
  have hk : k.val < 64 := trips1 ▸ k.isLt
  rw [k1_chk1]
  refine Fin.forall_fin_two.mpr ⟨fun x => ?_, fun x => ?_⟩
  · rw [lane_eq x]
    exact (fill_row k (x 0)).trans_lt (show (16 * k.val + ((x 0 : Fin 16)).val) / 32 < 32 by have h16 : ((x 0 : Fin 16)).val < 16 := (x 0).isLt; omega)
  · rw [lane_eq x]
    exact (fill_col k (x 0)).trans_lt (Nat.mod_lt _ (by decide))

/-- One trip of the padding loop sets 16 more places to level 1000. -/
theorem fill_trip (k : Fin k1_t1_loop.trips) (r : BitVec 32) :
    iprop(∃ f : Vec F S32x32 .i32, ⌜Filled (16 * k.val) f⌝ ∗ ((sX).view.loc (V d (cV L) (jV L)) ↦{fullShare} f : sProp 𝕄))
     ⊢ wp frame (wpE (defs₀ (F := F)) 𝒱₀ (V d (cV L) (jV L)) none) Set.univ (fillBody (F := F) L k r)
        fun _ => iprop(∃ f : Vec F S32x32 .i32, ⌜Filled (16 * (k.val + 1)) f⌝ ∗ ((sX).view.loc (V d (cV L) (jV L)) ↦{fullShare} f : sProp 𝕄)) := by
  iintro ⟨%f, %hf, H⟩
  sl_unfold [fillBody, k1_t1_body]
  have hc := fill_inb k
  sl_exec
  ihave H' := (Entails.of_eq (pts_sX (F := F) d L _).symm) $$ H
  iapply (SparseCore.wp_vectorStoreIdx 𝒱₀ (V d (cV L) (jV L)) none Set.univ (base := sX)) $$ H'; iintro H'
  ihave H := (Entails.of_eq (pts_sX_new (F := F) d L _ _)) $$ H'
  sl_step
  iexists _
  isplitr [H]
  rotate_left
  · iexact H
  · ipureintro
    exact filled_step k _ _ ((read_sX (F := F) f).symm ▸ hf)

/-! ## Quantising the features -/

/-- The quantising loop stores within the index table. -/
theorem feed_inb (k : Fin k1_t2_loop.trips) : k1_chk2 (k1_pay5 (k1_pay14 lanes 0#32 1#32 k) (k1_pay15 lanes 0#32 1#32 k))
    (k1_pay6 (k1_pay13 lanes 0#32 1#32 k) (k1_pay5 (k1_pay14 lanes 0#32 1#32 k) (k1_pay15 lanes 0#32 1#32 k))) := by
  have hk : k.val < 52 := trips2 ▸ k.isLt
  rw [k1_chk2]
  refine Fin.forall_fin_two.mpr ⟨fun x => ?_, fun x => ?_⟩
  · rw [lane_eq x]
    exact (feat_row k (x 0)).trans_lt (show (16 * k.val + ((x 0 : Fin 16)).val) / 26 < 32 by have h16 : ((x 0 : Fin 16)).val < 16 := (x 0).isLt; omega)
  · rw [lane_eq x]
    exact (feat_col k (x 0)).trans_lt ((Nat.mod_lt _ (by decide)).trans (by decide))

/-- One trip of the quantising loop stores the levels of 16 more inputs. -/
theorem feed_trip (X : Vec F S832 .f32) (k : Fin k1_t2_loop.trips) (r : BitVec 32) :
    iprop(((sI).view.loc (V d (cV L) (jV L)) ↦{fullShare} X : sProp 𝕄)
      ∗ ∃ f : Vec F S32x32 .i32, ⌜Fed X (16 * k.val) f⌝ ∗ ((sX).view.loc (V d (cV L) (jV L)) ↦{fullShare} f : sProp 𝕄))
     ⊢ wp frame (wpE (defs₀ (F := F)) 𝒱₀ (V d (cV L) (jV L)) none) Set.univ (feedBody (F := F) L k r)
        fun _ => iprop(((sI).view.loc (V d (cV L) (jV L)) ↦{fullShare} X : sProp 𝕄)
      ∗ ∃ f : Vec F S32x32 .i32, ⌜Fed X (16 * (k.val + 1)) f⌝ ∗ ((sX).view.loc (V d (cV L) (jV L)) ↦{fullShare} f : sProp 𝕄)) := by
  iintro ⟨HI, %f, %hf, H⟩
  sl_unfold [feedBody, k1_t2_body]
  rw [k1_part1_eq_skeleton]
  sl_unfold [k1_part1_skel]
  have hc := feed_inb k
  sl_exec
  ihave H' := (Entails.of_eq (pts_sX (F := F) d L _).symm) $$ H
  iapply (SparseCore.wp_vectorStoreIdx 𝒱₀ (V d (cV L) (jV L)) none Set.univ (base := sX)) $$ H'; iintro H'
  ihave H := (Entails.of_eq (pts_sX_new (F := F) d L _ _)) $$ H'
  sl_step
  isplitl [HI]; · iexact HI
  iexists _
  isplitr [H]
  rotate_left
  · iexact H
  · ipureintro
    exact fed_step X k _ _ (fun i hi => loaded (F := F) (n := 832) (sI).view X _ (off2_eq k) i hi) _ _ (feat_row k) (feat_col k) _ ((read_sX (F := F) f).symm ▸ hf)

/-! ## Gathering the row -/

omit [FloatOps F] in
theorem pts_sS (f : Vec F S1008 .i32) : (((sS).access (.whole S1008)).loc (V d (cV L) (jV L)) ↦{fullShare} f : sProp 𝕄)
    = ((sS).view.loc (V d (cV L) (jV L)) ↦{fullShare} f) := rfl
omit [FloatOps F] in
theorem pts_sT (f : Vec F S110592 .f32) : (((sT).access (.whole S110592)).loc (V d (cV L) (jV L)) ↦{fullShare} f : sProp 𝕄)
    = ((sT).view.loc (V d (cV L) (jV L)) ↦{fullShare} f) := rfl

omit [FloatOps F] in
theorem read_sS (f : Vec F S1008 .i32) : ((sS).access (.whole S1008)).read (Elt F) f = f := Memref.read_access_whole (Elt F) cc1_scratch5 f
omit [FloatOps F] in
theorem read_sT (f : Vec F S110592 .f32) : ((sT).access (.whole S110592)).read (Elt F) f = f := Memref.read_access_whole (Elt F) cc1_scratch3 f

/-- Sixteen gathered cells stored past `16 k` of them. -/
theorem rowed_step (X : Vec F S832 .f32) (M : Vec F S4096 .i32) (Tb : Vec F S110592 .f32) (row : Nat) (k : Fin k1_t6_loop.trips)
    (f : Vec F S4096 .f32) (hf : Rowed X M Tb row (16 * k.val) f) (w : S16.Idx → F .f32)
    (hw : ∀ i : Fin 16, ∀ hi h, w (lane i) = Tb (cellAt (26 - below X row (M (at1 (n := 4096) (16 * k.val + i.val) hi)).toNat) (16 * k.val + i.val) h)) :
    Rowed X M Tb row (16 * (k.val + 1)) ((sO).view.writes (Elt F) f [⟨Rect.unit (s := S4096) (k1_off8 k) S16.size (k1_off8_inb k), w⟩]) := by
  have hk : k.val < 256 := trips6 ▸ k.isLt
  intro j hj h
  by_cases hlt : (j 0).val < 16 * k.val
  · exact (stored_not_mem (F := F) (n := 4096) (e := .f32) (sO).view f _ _ j (off8_eq k) hlt).trans (hf j hlt h)
  · obtain ⟨i, hi⟩ : ∃ i : Fin 16, i.val = (j 0).val - 16 * k.val := ⟨⟨_, by omega⟩, rfl⟩
    refine (stored_mem (F := F) (n := 4096) (e := .f32) (sO).view f _ w j (off8_eq k) i (by omega)).trans ?_
    have e : j = at1 (n := 4096) (16 * k.val + i.val) (by omega) := (at1_eq (n := 4096) j).trans (at1_congr (by omega) _ _)
    have e0 : (j 0).val = 16 * k.val + i.val := by omega
    rw [hw i (by omega) (by rw [← e, ← e0]; exact h)]
    exact congrArg Tb (at1_congr (by rw [← e, ← e0]) _ _)

/-- One trip of the output loop fills 16 more columns with the table's entries at their thresholds. -/
theorem row_trip (X : Vec F S832 .f32) (M : Vec F S4096 .i32) (hM : ∀ j, (M j).toNat ≤ 999) (Tb : Vec F S110592 .f32) (row : Nat)
    (s : Vec F S1008 .i32) (hs : Summed X row (16 * 63) s) (k : Fin k1_t6_loop.trips) (r : BitVec 32) :
    iprop(((sM).view.loc (V d (cV L) (jV L)) ↦{fullShare} M : sProp 𝕄) ∗ ((sT).view.loc (V d (cV L) (jV L)) ↦{fullShare} Tb : sProp 𝕄)
      ∗ ((sS).view.loc (V d (cV L) (jV L)) ↦{fullShare} s : sProp 𝕄)
      ∗ ∃ f : Vec F S4096 .f32, ⌜Rowed X M Tb row (16 * k.val) f⌝ ∗ ((sO).view.loc (V d (cV L) (jV L)) ↦{fullShare} f : sProp 𝕄))
     ⊢ wp frame (wpE (defs₀ (F := F)) 𝒱₀ (V d (cV L) (jV L)) none) Set.univ (rowBody (F := F) L k r)
        fun _ => iprop(((sM).view.loc (V d (cV L) (jV L)) ↦{fullShare} M : sProp 𝕄) ∗ ((sT).view.loc (V d (cV L) (jV L)) ↦{fullShare} Tb : sProp 𝕄)
      ∗ ((sS).view.loc (V d (cV L) (jV L)) ↦{fullShare} s : sProp 𝕄)
      ∗ ∃ f : Vec F S4096 .f32, ⌜Rowed X M Tb row (16 * (k.val + 1)) f⌝ ∗ ((sO).view.loc (V d (cV L) (jV L)) ↦{fullShare} f : sProp 𝕄)) := by
  have hk : k.val < 256 := trips6 ▸ k.isLt
  iintro ⟨HM, HT, HS, %f, %hf, HO⟩
  have hv : ∀ i : Fin 16, ∀ hi, (sM).view.readAt (Elt F) (Rect.unit (s := S4096) (k1_off7 k) S16.size (k1_off7_inb k)).toLoadRect M (lane i)
      = M (at1 (n := 4096) (16 * k.val + i.val) hi) := fun i hi => loaded (F := F) (n := 4096) (sM).view M _ (off7_eq k) i hi
  have h5 : k1_chk5 ((sM).view.readAt (Elt F) (Rect.unit (s := S4096) (k1_off7 k) S16.size (k1_off7_inb k)).toLoadRect M) := by
    rw [k1_chk5]
    intro a x
    obtain rfl : a = 0 := Fin.eq_zero a
    rw [lane_eq x]
    have h16 : ((x 0 : Fin 16)).val < 16 := (x 0).isLt
    exact (congrArg BitVec.toNat (hv (x 0) (by omega))).trans_lt ((hM _).trans_lt (by decide))
  -- the row offset each lane reads
  have hr : ∀ i : Fin 16, ∀ hi, (loadIdx (s := S1008) (t := S16) (e := .i32) (F := F) (((sS).access (.whole S1008)).read (Elt F) s) ![(sM).view.readAt (Elt F) (Rect.unit (s := S4096) (k1_off7 k) S16.size (k1_off7_inb k)).toLoadRect M]
      (k1_idx5_inb _ h5)) (lane i) = rowWord X row (M (at1 (n := 4096) (16 * k.val + i.val) hi)).toNat := by
    intro i hi
    have hm := hM (at1 (n := 4096) (16 * k.val + i.val) hi)
    have he := congrArg BitVec.toNat (hv i hi)
    refine (((read_sS (F := F) s).symm ▸ hs : Summed X row (16 * 63) (((sS).access (.whole S1008)).read (Elt F) s)) _ ?_).trans (congrArg (rowWord X row) ?_)
    · exact he.trans_lt (by omega)
    · exact he
  have ha : ∀ i : Fin 16, ∀ hi, (k1_pay11 (F := F) k (loadIdx (s := S1008) (t := S16) (e := .i32) (F := F) (((sS).access (.whole S1008)).read (Elt F) s) ![(sM).view.readAt (Elt F) (Rect.unit (s := S4096) (k1_off7 k) S16.size (k1_off7_inb k)).toLoadRect M]
      (k1_idx5_inb _ h5)) (lane i)).toNat = (26 - below X row (M (at1 (n := 4096) (16 * k.val + i.val) hi)).toNat) * 4096 + (16 * k.val + i.val) :=
    fun i hi => pay11_toNat X row k _ i _ (hM _) (hr i hi)
  have h6 : k1_chk6 (k1_pay11 (F := F) k (loadIdx (s := S1008) (t := S16) (e := .i32) (F := F) (((sS).access (.whole S1008)).read (Elt F) s) ![(sM).view.readAt (Elt F) (Rect.unit (s := S4096) (k1_off7 k) S16.size (k1_off7_inb k)).toLoadRect M]
      (k1_idx5_inb _ h5))) := by
    rw [k1_chk6]
    intro a x
    obtain rfl : a = 0 := Fin.eq_zero a
    rw [lane_eq x]
    have h16 : ((x 0 : Fin 16)).val < 16 := (x 0).isLt
    refine (ha (x 0) (by omega)).trans_lt ?_
    show (26 - _) * 4096 + (16 * k.val + ((x 0 : Fin 16)).val) < 110592
    omega
  sl_unfold [rowBody, k1_t6_body]
  sl_exec
  ihave HS' := (Entails.of_eq (pts_sS (F := F) d L _).symm) $$ HS
  iapply (SparseCore.wp_vectorLoadIdx 𝒱₀ (V d (cV L) (jV L)) none Set.univ (base := sS) (S := Finset.univ) (q := fullShare) (Finset.subset_univ _)) $$ HS'; iintro HS'
  ihave HS := (Entails.of_eq (pts_sS (F := F) d L _)) $$ HS'
  sl_exec (disch := exact h6)
  ihave HT' := (Entails.of_eq (pts_sT (F := F) d L _).symm) $$ HT
  iapply (SparseCore.wp_vectorLoadIdx 𝒱₀ (V d (cV L) (jV L)) none Set.univ (base := sT) (S := Finset.univ) (q := fullShare) (Finset.subset_univ _)) $$ HT'; iintro HT'
  ihave HT := (Entails.of_eq (pts_sT (F := F) d L _)) $$ HT'
  sl_exec
  sl_step
  isplitl [HM]; · iexact HM
  isplitl [HT]; · iexact HT
  isplitl [HS]; · iexact HS
  iexists _
  isplitr [HO]
  rotate_left
  · iexact HO
  · ipureintro
    exact rowed_step X M Tb row k f hf _ (fun i hi h => (congrFun (read_sT (F := F) Tb) _).trans (congrArg Tb ((at1_eq (n := 110592) _).trans (at1_congr (ha i hi) _ _))))

end Cert.Proof.Enc

end
-- ==== Proof.Rows.lean ====
/-
  The rows of the result a tile writes: which elements a row is, how the program's row window places them, and what the
  tile's slice of the input reads.
-/
module

public import proofs.«01_k».proof.Proof.Loops

@[expose] public section

noncomputable section

namespace Cert.Proof.Enc

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}
local notation "𝕄" => MT nD τ sig (HIx 1) (Elt F) ℕ UU ℕ

/-- The tile's number among the thirty-two. -/
def wid (L : grid1.Coords) : Nat := 2 * (L 1).val + (L 0).val

/-- There are 32 tiles. -/
theorem wid_lt (L : grid1.Coords) : wid L < 32 := by
  have h0 : (L 0).val < 2 := (L 0).isLt
  have h1 : (L 1).val < 16 := (L 1).isLt
  unfold wid; omega

/-- The elements of row `n` of the result. -/
def rowSet (n : Nat) : Finset S1024x4096.Idx := Finset.univ.filter fun j => (j 0).val = n

/-- A place of the output lies in row `n` when its first coordinate is `n`. -/
theorem mem_rowSet {n : Nat} {j : S1024x4096.Idx} : j ∈ rowSet n ↔ (j 0).val = n := by simp [rowSet]

/-- The window the tile writes its row `t` through. -/
abbrev oRowK (L : grid1.Coords) (t : Fin k1_t3_loop.trips) : Memref sig .scVector .hbm S4096 .f32 :=
  (oV.slice (Rect.unit (s := S1024x4096) (k1_off9 L t) S1x4096.size (k1_off9_inb L t)) (fun _ => rfl)).squeeze S4096 squeezes_S1x4096_S4096

/-- The window the tile reads its samples through. -/
abbrev iRowK (L : grid1.Coords) : Memref sig .scVector .hbm S832 .f32 :=
  iV.slice (Rect.unit (s := S26624) (k1_off1 L) S832.size (k1_off1_inb L)) (fun _ => rfl)

variable (d : Dev nD) (L : grid1.Coords)

/-- The window of sample `t` is row `32 · tile + t` of the output. -/
theorem set_oRowK (t : Fin k1_t3_loop.trips) : (oRowK L t).view.set = rowSet (32 * wid L + t.val) := by
  show (((View.whole main_v5_scv).slice (Rect.unit (s := S1024x4096) (k1_off9 L t) S1x4096.size (k1_off9_inb L t))).reshape S4096 squeezes_S1x4096_S4096.numel_eq).set = _
  rw [View.set_reshape]
  refine (View.set_slice_whole main_v5_scv _).trans (Finset.ext fun j => ?_)
  refine (Rect.mem_set_unit (s := S1024x4096)).trans (Iff.trans ?_ mem_rowSet.symm)
  rw [off9_eq]
  have h1 : (j 1).val < 4096 := (j 1).isLt
  constructor
  · intro h
    have h0 : 32 * (2 * (L 1).val + (L 0).val) + t.val ≤ (j 0).val ∧ (j 0).val < 32 * (2 * (L 1).val + (L 0).val) + t.val + 1 := h 0
    unfold wid; omega
  · intro h
    unfold wid at h
    refine Fin.forall_fin_two.mpr ⟨?_, ?_⟩
    · show 32 * (2 * (L 1).val + (L 0).val) + t.val ≤ (j 0).val ∧ (j 0).val < 32 * (2 * (L 1).val + (L 0).val) + t.val + 1
      omega
    · show 0 ≤ (j 1).val ∧ (j 1).val < 0 + 4096
      omega

/-- Element `p` of the window is column `p` of the row. -/
theorem emb_oRowK (t : Fin k1_t3_loop.trips) (j : S1024x4096.Idx) (hj : (j 0).val = 32 * wid L + t.val) :
    (oRowK L t).view.emb (at1 (n := 4096) (j 1).val (j 1).isLt) = j := by
  have e : Shape.reshapeEquiv (s := S1x4096) (s' := S4096) squeezes_S1x4096_S4096.numel_eq (at1 (n := 4096) (j 1).val (j 1).isLt)
      = Fin.cons ⟨0, Nat.one_pos⟩ (at1 (n := 4096) (j 1).val (j 1).isLt) := Shape.reshapeEquiv_cons_one (d := ![4096]) _ _
  show (Rect.unit (s := S1024x4096) (k1_off9 L t) S1x4096.size (k1_off9_inb L t)).emb (Shape.reshapeEquiv (s := S1x4096) (s' := S4096) squeezes_S1x4096_S4096.numel_eq (at1 (n := 4096) (j 1).val (j 1).isLt)) = j
  rw [e]
  funext a
  apply Fin.ext
  match a with
  | 0 =>
    have e0 : k1_off9 L t 0 = 32 * (2 * (L 1).val + (L 0).val) + t.val := congrFun (off9_eq L t) 0
    unfold wid at hj
    show k1_off9 L t 0 + 1 * 0 = (j 0).val
    omega
  | 1 =>
    have e1 : k1_off9 L t 1 = 0 := congrFun (off9_eq L t) 1
    show k1_off9 L t 1 + 1 * (j 1).val = (j 1).val
    omega

/-- What the row's window leaves at an element of the row. -/
theorem write_oRowK (t : Fin k1_t3_loop.trips) (f : Vec F S1024x4096 .f32) (w : Vec F S4096 .f32) (j : S1024x4096.Idx) (hj : (j 0).val = 32 * wid L + t.val) :
    (oRowK L t).view.write (Elt F) f w Finset.univ j = w (at1 (n := 4096) (j 1).val (j 1).isLt) := by
  have h := View.write_emb_of_mem (v := (oRowK L t).view) (Val := Elt F) f w (Finset.mem_univ (at1 (n := 4096) (j 1).val (j 1).isLt))
  rw [emb_oRowK L t j hj] at h
  exact h

/-- Holding the window is holding that row. -/
theorem pts_oRowK (t : Fin k1_t3_loop.trips) (f : Buf (Elt F) (oLoc d)) :
    ((oRowK L t).view.loc (V d (cV L) (jV L)) ↦[(oRowK L t).view.set]{fullShare} f : sProp 𝕄) = (oLoc d ↦[rowSet (32 * wid L + t.val)]{fullShare} f) :=
  congrArg (fun A => (oLoc d ↦[A]{fullShare} f : sProp 𝕄)) (set_oRowK L t)

/-- The tile's samples. -/
def slab (I : Vec F S26624 .f32) (n : Nat) (hn : n < 32) : Vec F S832 .f32 := fun x =>
  I (at1 (n := 26624) (832 * n + (x 0).val) (by have h : (x 0).val < 832 := (x 0).isLt; omega))

/-- A tile's copy of the inputs is its own 832 of them. -/
theorem read_iRowK (I : Vec F S26624 .f32) : (iRowK L).view.read (Elt F) I = slab I (wid L) (wid_lt L) := by
  funext x
  show I ((Rect.unit (s := S26624) (k1_off1 L) S832.size (k1_off1_inb L)).emb x) = I _
  congr 1
  refine (at1_eq (n := 26624) _).trans (at1_congr ?_ _ _)
  have e0 : k1_off1 L 0 = 832 * (2 * (L 1).val + (L 0).val) := congrFun (off1_eq L) 0
  show k1_off1 L 0 + 1 * (x 0).val = _
  unfold wid; omega

end Cert.Proof.Enc

end
-- ==== Proof.Sample.lean ====
/-
  One sample of a tile: its histogram, the running sum, the gathered row and the row's copy out, as a step of the sample
  loop's invariant.
-/
module

public import proofs.«01_k».proof.Proof.Rows

@[expose] public section

noncomputable section

namespace Cert.Proof.Enc

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

variable [FloatOps F] (d : Dev nD) (L : grid1.Coords)

abbrev sampleBody := k1_t3_body (F := F) L iV (Memref.isWhole_whole _) mV (Memref.isWhole_whole _) tV (Memref.isWhole_whole _) oV (Memref.isWhole_whole _)
  sI (Memref.isWhole_whole _) sX (Memref.isWhole_whole _) sM (Memref.isWhole_whole _) sT (Memref.isWhole_whole _) sH (Memref.isWhole_whole _)
  sS (Memref.isWhole_whole _) sO (Memref.isWhole_whole _) cc1_scratch7 cc1_scoped0 cc1_scoped1 cc1_scoped2 cc1_scoped3

/-- The semaphore a row's copy out completes on. -/
abbrev rowCell (d : Dev nD) (L : grid1.Coords) : GSem nD τ sig := (V d (cV L) (jV L), .dma cc1_scoped3.sem)

/-- The tile's rows, the first `n` written. -/
def rows (f0 G : Buf (Elt F) (oLoc d)) (n : Nat) : sProp 𝕄 :=
  bigSep Finset.univ fun t : Fin k1_t3_loop.trips => oLoc d ↦[rowSet (32 * wid L + t.val)]{fullShare} (if t.val < n then G else f0)

omit [FloatOps F] in
/-- Row `k` taken out, and put back written. -/
theorem rows_step (f0 G : Buf (Elt F) (oLoc d)) (k : Fin k1_t3_loop.trips) :
    rows d L f0 G k.val ⊢ iprop((oLoc d ↦[rowSet (32 * wid L + k.val)]{fullShare} f0)
      ∗ ((oLoc d ↦[rowSet (32 * wid L + k.val)]{fullShare} G) -∗ rows d L f0 G (k.val + 1))) := by
  unfold rows
  rw [SparseCore.bigSep_erase' (Finset.mem_univ k), SparseCore.bigSep_erase' (Finset.mem_univ k), if_neg (Nat.lt_irrefl _), if_pos (Nat.lt_succ_self _)]
  rw [bigSep_congr (s := Finset.univ.erase k) (Ψ := fun t : Fin k1_t3_loop.trips => iprop(oLoc d ↦[rowSet (32 * wid L + t.val)]{fullShare} (if t.val < k.val + 1 then G else f0)))
    (fun t ht => by
      have hne : t.val ≠ k.val := fun e => (Finset.mem_erase.mp ht).1 (Fin.ext e)
      by_cases h : t.val < k.val
      · rw [if_pos h, if_pos (by omega)]
      · rw [if_neg h, if_neg (by omega)])]
  iintro ⟨H, HR⟩
  isplitl [H]; · iexact H
  iintro H
  isplitl [H]; · iexact H
  iexact HR

omit [FloatOps F] in
theorem pts_sH (f : Vec F S1008 .i32) : (((sH).access (.whole S1008)).loc (V d (cV L) (jV L)) ↦[((sH).access (.whole S1008)).set]{fullShare} f : sProp 𝕄)
    = ((sH).view.loc (V d (cV L) (jV L)) ↦{fullShare} f) :=
  congrArg (fun A => (((sH).access (.whole S1008)).loc (V d (cV L) (jV L)) ↦[A]{fullShare} f : sProp 𝕄)) (Memref.set_access_whole cc1_scratch4)

omit [FloatOps F] in
theorem pts_sH_new (f w : Vec F S1008 .i32) : (((sH).access (.whole S1008)).loc (V d (cV L) (jV L)) ↦[((sH).access (.whole S1008)).set]{fullShare} (((sH).access (.whole S1008)).write (Elt F) f w Finset.univ) : sProp 𝕄)
    = ((sH).view.loc (V d (cV L) (jV L)) ↦{fullShare} w) :=
  (pts_sH (F := F) d L _).trans (congrArg (fun g => ((sH).view.loc (V d (cV L) (jV L)) ↦{fullShare} g : sProp 𝕄)) (Memref.write_access_whole_univ (Elt F) cc1_scratch4 f w))

omit [FloatOps F] in
theorem read_sH (f : Vec F S1008 .i32) : ((sH).access (.whole S1008)).read (Elt F) f = f := Memref.read_access_whole (Elt F) cc1_scratch4 f

/-- The histogram buffer after the sample's two adds. -/
theorem counted_pts (X : Vec F S832 .f32) (row : Nat) (g : Vec F S1008 .i32) (hg : Zeroed (16 * 63) g) (x y : IVec S16 32)
    (hx : ∀ i : Fin 16, x (lane i) = tab X row i.val) (hy : ∀ i : Fin 16, y (lane i) = tab X row (16 + i.val))
    (h : ∀ a k, ((![x] : Fin 1 → IVec S16 32) a k).toNat < S1008.size a) (h' : ∀ a k, ((![y] : Fin 1 → IVec S16 32) a k).toNat < S1008.size a) :
    ((sH).view.loc (V d (cV L) (jV L)) ↦{fullShare} (storeIdx (F := F) (s := S1008) (e := .i32) (d := ![16]) (((sH).access (.whole S1008)).read (Elt F)
        (storeIdx (F := F) (s := S1008) (e := .i32) (d := ![16]) (((sH).access (.whole S1008)).read (Elt F) g) ![x] k1_pay7 (fun _ => 1#1) true h : Vec F S1008 .i32)) ![y] k1_pay7 (fun _ => 1#1) true h' : Vec F S1008 .i32) : sProp 𝕄)
      ⊢ iprop(∃ f : Vec F S1008 .i32, ⌜Counted X row f⌝ ∗ ((sH).view.loc (V d (cV L) (jV L)) ↦{fullShare} f)) := by
  rw [read_sH, read_sH]
  iintro H
  iexists _
  isplitr [H]; rotate_left; · iexact H
  ipureintro
  exact counted_of_adds (F := F) X row g x y hx hy h h' hg

/-- The loops' invariants. -/
def zeroInv (n : Nat) (_ : BitVec 32) : sProp 𝕄 :=
  iprop(∃ f : Vec F S1008 .i32, ⌜Zeroed (16 * n) f⌝ ∗ ((sH).view.loc (V d (cV L) (jV L)) ↦{fullShare} f))
/-- Between trips of the running sum: the carry is the count below the bins passed, and those bins' offsets are stored. -/
def sumInv (X : Vec F S832 .f32) (row : Nat) (h : Vec F S1008 .i32) (n : Nat) (r : BitVec 32) : sProp 𝕄 :=
  iprop(⌜r = BitVec.ofNat 32 (below X row (16 * n))⌝ ∗ ((sH).view.loc (V d (cV L) (jV L)) ↦{fullShare} h)
      ∗ ∃ f : Vec F S1008 .i32, ⌜Summed X row (16 * n) f⌝ ∗ ((sS).view.loc (V d (cV L) (jV L)) ↦{fullShare} f))
/-- Between trips of the output loop: the columns passed hold their entries. -/
def rowInv (X : Vec F S832 .f32) (M : Vec F S4096 .i32) (Tb : Vec F S110592 .f32) (row : Nat) (s : Vec F S1008 .i32) (n : Nat) (_ : BitVec 32) : sProp 𝕄 :=
  iprop(((sM).view.loc (V d (cV L) (jV L)) ↦{fullShare} M) ∗ ((sT).view.loc (V d (cV L) (jV L)) ↦{fullShare} Tb)
      ∗ ((sS).view.loc (V d (cV L) (jV L)) ↦{fullShare} s)
      ∗ ∃ f : Vec F S4096 .f32, ⌜Rowed X M Tb row (16 * n) f⌝ ∗ ((sO).view.loc (V d (cV L) (jV L)) ↦{fullShare} f))

/-- The sample loop's invariant: the words, thresholds and table as they are, the scratches at anything, the first `n` rows
    written. -/
def sampleInv (M : Vec F S4096 .i32) (Tb : Vec F S110592 .f32) (w : Vec F S32x32 .i32) (f0 G : Buf (Elt F) (oLoc d)) (O : CellTallies nD τ sig (HIx 1))
    (n : Nat) (_ : BitVec 32) : sProp 𝕄 :=
  iprop(Transfers.MayWaits (V d (cV L) (jV L)) (default : HIx 1) O
    ∗ ((sX).view.loc (V d (cV L) (jV L)) ↦{fullShare} w) ∗ ((sM).view.loc (V d (cV L) (jV L)) ↦{fullShare} M) ∗ ((sT).view.loc (V d (cV L) (jV L)) ↦{fullShare} Tb)
    ∗ (∃ f : Vec F S1008 .i32, (sH).view.loc (V d (cV L) (jV L)) ↦{fullShare} f) ∗ (∃ f : Vec F S1008 .i32, (sS).view.loc (V d (cV L) (jV L)) ↦{fullShare} f)
    ∗ (∃ f : Vec F S4096 .f32, (sO).view.loc (V d (cV L) (jV L)) ↦{fullShare} f)
    ∗ rows d L f0 G n ∗ semVal (rowCell d L) 0 ∗ ∃ W', owes (V d (cV L) (jV L)) O W')

omit [FloatOps F] in
/-- Sixteen words read from a row of the index table. -/
theorem half_word (row b : Nat) (hr : row < 32) {off : Fin 2 → Nat} (heq : off = ![row, b]) (inb : ∀ a, off a + S1x16.size a ≤ S32x32.size a)
    (w : Vec F S32x32 .i32) (i : Fin 16) (hi : b + i.val < 32) :
    (shapeCast S16 ((sX).view.readAt (Elt F) (Rect.unit (s := S32x32) off S1x16.size inb).toLoadRect w) shapeCasts_S1x16_S16 : Vec F S16 .i32) (lane i)
      = w (Shape.pair (d := ![32, 32]) ⟨row, hr⟩ ⟨b + i.val, hi⟩) := by
  subst heq
  have e : Shape.reshapeEquiv (s := S1x16) (s' := S16) shapeCasts_S1x16_S16 (lane i) = Fin.cons ⟨0, Nat.one_pos⟩ (lane i) := Shape.reshapeEquiv_cons_one (d := ![16]) _ _
  unfold shapeCast
  rw [View.readAt_apply]
  refine congrArg w ?_
  rw [e]
  funext a
  apply Fin.ext
  match a with
  | 0 => show row + 1 * 0 = row; omega
  | 1 => show b + 1 * i.val = b + i.val; omega

/-- The row's window after the copy: the row of the result. -/
theorem row_written (X : Vec F S832 .f32) (M : Vec F S4096 .i32) (hM : ∀ j, (M j).toNat ≤ 999) (Tb : Vec F S110592 .f32) (k : Fin k1_t3_loop.trips)
    (f0 G : Buf (Elt F) (oLoc d))
    (hG : ∀ j ∈ rowSet (32 * wid L + k.val), ∀ h, (show S1024x4096.Idx → F .f32 from G) j = Tb (cellAt (26 - below X k.val (M (at1 (n := 4096) (j 1).val (j 1).isLt)).toNat) (j 1).val h))
    (g : Vec F S4096 .f32) (hg : Rowed X M Tb k.val (16 * 256) g) :
    ((oRowK L k).view.loc (V d (cV L) (jV L)) ↦[(oRowK L k).view.set]{fullShare} ((oRowK L k).view.writes (Elt F) f0 [⟨Rect.whole S4096, g⟩]) : sProp 𝕄)
      = (oLoc d ↦[rowSet (32 * wid L + k.val)]{fullShare} G) := by
  refine (pts_oRowK (F := F) d L k _).trans (pointsTo_congr fun j hj => ?_)
  have h : (oRowK L k).view.writes (Elt F) f0 [⟨Rect.whole S4096, g⟩] j = g (at1 (n := 4096) (j 1).val (j 1).isLt) := by
    have h1 := View.write_emb_of_mem (v := (oRowK L k).view.slice (Rect.whole S4096)) (Val := Elt F) f0 g (Finset.mem_univ (at1 (n := 4096) (j 1).val (j 1).isLt))
    have h2 : ((oRowK L k).view.slice (Rect.whole S4096)).emb (at1 (n := 4096) (j 1).val (j 1).isLt) = j := by
      refine Eq.trans ?_ (emb_oRowK L k j (mem_rowSet.mp hj))
      show (oRowK L k).view.emb ((Rect.whole S4096).emb _) = _
      rw [Rect.emb_whole_apply]
    rw [h2] at h1
    exact h1
  rw [h]
  have hc : (26 - below X k.val (M (at1 (n := 4096) (j 1).val (j 1).isLt)).toNat) * 4096 + (j 1).val < 110592 := by
    have : (j 1).val < 4096 := (j 1).isLt
    omega
  exact (hg (at1 (n := 4096) (j 1).val (j 1).isLt) (j 1).isLt hc).trans (hG j hj hc).symm

/-- One sample: the histogram, its running sum, the row of results and its copy to the output. -/
theorem sample_trip (X : Vec F S832 .f32) (M : Vec F S4096 .i32) (hM : ∀ j, (M j).toNat ≤ 999) (Tb : Vec F S110592 .f32) (w : Vec F S32x32 .i32) (hw : Fed X (16 * 52) w)
    (f0 G : Buf (Elt F) (oLoc d)) (O : CellTallies nD τ sig (HIx 1)) (k : Fin k1_t3_loop.trips) (r : BitVec 32)
    (hG : ∀ j ∈ rowSet (32 * wid L + k.val), ∀ h, (show S1024x4096.Idx → F .f32 from G) j = Tb (cellAt (26 - below X k.val (M (at1 (n := 4096) (j 1).val (j 1).isLt)).toNat) (j 1).val h)) :
    sampleInv d L M Tb w f0 G O k.val r
     ⊢ wp frame (wpE (defs₀ (F := F)) 𝒱₀ (V d (cV L) (jV L)) none) Set.univ (sampleBody (F := F) L k r)
        fun r' => sampleInv d L M Tb w f0 G O (k.val + 1) r' := by
  have hk : k.val < 32 := lt_of_lt_of_eq k.isLt trips3
  -- the sample's words, both halves
  have hword : ∀ (c : Nat) (hc : c < 32), w (Shape.pair (d := ![32, 32]) ⟨k.val, hk⟩ ⟨c, hc⟩) = tab X k.val c := fun c hc =>
    hw _ (show 26 ≤ c ∨ 26 * k.val + c < 16 * 52 by omega)
  have h3 : ∀ i : Fin 16, (shapeCast S16 ((sX).view.readAt (Elt F) (Rect.unit (s := S32x32) (k1_off4 k) S1x16.size (k1_off4_inb k)).toLoadRect w) shapeCasts_S1x16_S16 : Vec F S16 .i32) (lane i) = tab X k.val i.val := by
    intro i
    refine (half_word k.val 0 hk (off4_eq k) (k1_off4_inb k) w i (by have := i.isLt; omega)).trans ((hword _ _).trans (congrArg (tab X k.val) (Nat.zero_add _)))
  have h4 : ∀ i : Fin 16, (shapeCast S16 ((sX).view.readAt (Elt F) (Rect.unit (s := S32x32) (k1_off5 k) S1x16.size (k1_off5_inb k)).toLoadRect w) shapeCasts_S1x16_S16 : Vec F S16 .i32) (lane i) = tab X k.val (16 + i.val) := by
    intro i
    exact (half_word k.val 16 hk (off5_eq k) (k1_off5_inb k) w i (by have := i.isLt; omega)).trans (hword _ _)
  have hc3 : k1_chk3 (shapeCast S16 ((sX).view.readAt (Elt F) (Rect.unit (s := S32x32) (k1_off4 k) S1x16.size (k1_off4_inb k)).toLoadRect w) shapeCasts_S1x16_S16) := by
    rw [k1_chk3]
    intro a x
    obtain rfl : a = 0 := Fin.eq_zero a
    rw [lane_eq x]
    exact (congrArg BitVec.toNat (h3 (x 0))).trans_lt ((tab_le X _ _).trans_lt (by decide))
  have hc4 : k1_chk4 (shapeCast S16 ((sX).view.readAt (Elt F) (Rect.unit (s := S32x32) (k1_off5 k) S1x16.size (k1_off5_inb k)).toLoadRect w) shapeCasts_S1x16_S16) := by
    rw [k1_chk4]
    intro a x
    obtain rfl : a = 0 := Fin.eq_zero a
    rw [lane_eq x]
    exact (congrArg BitVec.toNat (h4 (x 0))).trans_lt ((tab_le X _ _).trans_lt (by decide))
  unfold sampleInv
  iintro ⟨Hmw, HX, HM, HT, ⟨%fh, HH⟩, ⟨%fs, HS⟩, ⟨%fo, HO⟩, HR, Hsem, %W', Howes⟩
  sl_unfold [sampleBody, k1_t3_body]
  sl_for (zeroInv (F := F) d L) $$ [HH]
  case region => intro k' r'; exact zero_trip d L k' r'
  · unfold zeroInv; iexists fh; isplitr; · ipureintro; intro _ h; exact absurd h (Nat.not_lt_zero _)
    iexact HH
  unfold zeroInv
  iintro %_ ⟨%g, %hg, HH⟩
  rw [show Scf.trips k1_t4_loop.lb k1_t4_loop.ub k1_t4_loop.st = 63 from trips4] at hg
  sl_exec
  ihave HH' := (Entails.of_eq (pts_sH (F := F) d L _).symm) $$ HH
  iapply (SparseCore.wp_vectorStoreIdx 𝒱₀ (V d (cV L) (jV L)) none Set.univ (base := sH)) $$ HH'; iintro HH'
  ihave HH := (Entails.of_eq (pts_sH_new (F := F) d L _ _)) $$ HH'
  ihave HH' := (Entails.of_eq (pts_sH (F := F) d L _).symm) $$ HH
  iapply (SparseCore.wp_vectorStoreIdx 𝒱₀ (V d (cV L) (jV L)) none Set.univ (base := sH)) $$ HH'; iintro HH'
  ihave HH := (Entails.of_eq (pts_sH_new (F := F) d L _ _)) $$ HH'
  ihave HH := (counted_pts (F := F) d L X k.val g hg (sample_trip.sl.v17 w k) (sample_trip.sl.v19 w k) h3 h4 hc3 hc4) $$ HH
  icases HH with ⟨%hst, %hcnt, HH⟩
  sl_for (sumInv (F := F) d L X k.val hst) $$ [HH HS]
  case region => intro k' r'; exact sum_trip d L X k.val hst hcnt k' r'
  · unfold sumInv
    isplitr; · ipureintro; exact congrArg (BitVec.ofNat 32) (below_zero X k.val).symm
    isplitl [HH]; · iexact HH
    iexists fs; isplitr; · ipureintro; intro _ h; exact absurd h (Nat.not_lt_zero _)
    iexact HS
  unfold sumInv
  iintro %_ ⟨-, HH, %s, %hs, HS⟩
  rw [show Scf.trips k1_t5_loop.lb k1_t5_loop.ub k1_t5_loop.st = 63 from trips5] at hs
  sl_for (rowInv (F := F) d L X M Tb k.val s) $$ [HM HT HS HO]
  case region => intro k' r'; exact row_trip d L X M hM Tb k.val s hs k' r'
  · unfold rowInv
    isplitl [HM]; · iexact HM
    isplitl [HT]; · iexact HT
    isplitl [HS]; · iexact HS
    iexists fo; isplitr; · ipureintro; intro _ h; exact absurd h (Nat.not_lt_zero _)
    iexact HO
  unfold rowInv
  iintro %_ ⟨HM, HT, HS, %g', %hg', HO⟩
  rw [show Scf.trips k1_t6_loop.lb k1_t6_loop.ub k1_t6_loop.st = 256 from trips6] at hg'
  ihave HR := (rows_step (F := F) d L f0 G k) $$ HR
  icases HR with ⟨Hrow, HR⟩
  ihave Hrow := (Entails.of_eq (pts_oRowK (F := F) d L k f0).symm) $$ Hrow
  sl_exec (disch := exact View.amount_pos _ _ (show 0 < S4096.numel by decide))
  sl_step
  ihave Hrow := (Entails.of_eq (row_written (F := F) d L X M hM Tb k f0 G hG (sample_trip.sl.dma0 g') hg')) $$ Hrow
  ihave HR := HR $$ Hrow
  isplitl [Hmw]; · iexact Hmw
  isplitl [HX]; · iexact HX
  isplitl [HM]; · iexact HM
  isplitl [HT]; · iexact HT
  isplitl [HH]; · iexists hst; iexact HH
  isplitl [HS]; · iexists s; iexact HS
  isplitl [HO]; · iexists g'; iexact HO
  isplitl [HR]; · iexact HR
  isplitl [Hsem]; · iexact Hsem
  iexists _; iexact Howes

end Cert.Proof.Enc

end
-- ==== Proof.Tile.lean ====
/-
  One tile's task: it fetches its samples, the thresholds and the table, builds its index table, and writes its thirty-two
  rows of the result.
-/
module

public import proofs.«01_k».proof.Proof.Sample

@[expose] public section

noncomputable section

namespace Cert.Proof.Enc

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

/-! ## The result as a function of the three arrays the tiles read -/

section Out
variable [FloatOps F]

/-- How many of sample `b`'s indices lie below `l`. -/
def lower (I : Vec F S26624 .f32) (b : Fin 1024) (l : Nat) : Nat :=
  below (slab I (b.val / 32) (by omega)) (b.val % 32) l

/-- A cell of at most 26 rows of 4096 lies within the flattened table. -/
theorem cell_inb (n p : Nat) (hp : p < 4096) : (26 - n) * 4096 + p < 110592 := by omega

/-- The result: the table's entry at the number of the sample's indices not below the column's threshold. -/
def outAt (I : Vec F S26624 .f32) (M : Vec F S4096 .i32) (Tb : Vec F S110592 .f32) : Vec F S1024x4096 .f32 := fun j =>
  Tb (cellAt (26 - lower I (j 0) (M (at1 (n := 4096) (j 1).val (j 1).isLt)).toNat) (j 1).val (cell_inb _ _ (j 1).isLt))

/-- Equal tiles and equal samples have equal counts. -/
theorem below_congr {n n' : Nat} (h : n = n') {r r' : Nat} (hr : r = r') (I : Vec F S26624 .f32) (hn : n < 32) (hn' : n' < 32) (l : Nat) :
    below (slab I n hn) r l = below (slab I n' hn') r' l := by subst h; subst hr; rfl

/-- Equal rows have equal entries. -/
theorem entry_congr (Tb : Vec F S110592 .f32) {a a' : Nat} (e : a = a') (p : Nat) (h : a * 4096 + p < 110592) (h' : a' * 4096 + p < 110592) :
    Tb (cellAt a p h) = Tb (cellAt a' p h') := by subst e; rfl

/-- The result on a tile's row, from the tile's own inputs. -/
theorem outAt_row (I : Vec F S26624 .f32) (M : Vec F S4096 .i32) (Tb : Vec F S110592 .f32) (L : grid1.Coords) (k : Nat) (hk : k < 32) :
    ∀ j ∈ rowSet (32 * wid L + k), ∀ h, outAt I M Tb j
      = Tb (cellAt (26 - below (slab I (wid L) (wid_lt L)) k (M (at1 (n := 4096) (j 1).val (j 1).isLt)).toNat) (j 1).val h) := by
  intro j hj h
  have hj := mem_rowSet.mp hj
  have e : lower I (j 0) (M (at1 (n := 4096) (j 1).val (j 1).isLt)).toNat = below (slab I (wid L) (wid_lt L)) k (M (at1 (n := 4096) (j 1).val (j 1).isLt)).toNat :=
    below_congr (by omega) (by omega) _ _ _ _
  exact entry_congr Tb (congrArg (26 - ·) e) _ _ _

end Out

/-! ## The tile's own semaphores and buffers -/

section Own
variable (d : Dev nD) (L : grid1.Coords)

abbrev inCell (d : Dev nD) (c : Fin τ.nSC) (i : Fin τ.nSub) : GSem nD τ sig := (V d c i, .dma cc1_scoped0.sem)
abbrev thrCell (d : Dev nD) (c : Fin τ.nSC) (i : Fin τ.nSub) : GSem nD τ sig := (V d c i, .dma cc1_scoped1.sem)
abbrev tabCell (d : Dev nD) (c : Fin τ.nSC) (i : Fin τ.nSub) : GSem nD τ sig := (V d c i, .dma cc1_scoped2.sem)
abbrev outCell (d : Dev nD) (c : Fin τ.nSC) (i : Fin τ.nSub) : GSem nD τ sig := (V d c i, .dma cc1_scoped3.sem)

/-- A tile's semaphores at zero: its four copies' and the rest. -/
theorem ownSems0_V :
    (ownSems0 (V d (cV L) (jV L)) : sProp 𝕄)
      = iprop(semVal (inCell d (cV L) (jV L)) 0 ∗ semVal (thrCell d (cV L) (jV L)) 0 ∗ semVal (tabCell d (cV L) (jV L)) 0 ∗ semVal (outCell d (cV L) (jV L)) 0
          ∗ bigSep (((((ownCells (V d (cV L) (jV L))).erase (inCell d (cV L) (jV L))).erase (thrCell d (cV L) (jV L))).erase (tabCell d (cV L) (jV L))).erase
              (outCell d (cV L) (jV L))) fun g => semVal g 0) := by
  unfold SparseCore.Cfg.ownSems0
  rw [SparseCore.bigSep_erase' ((mem_ownCells (g := inCell d (cV L) (jV L))).mpr ⟨rfl, by
      show (SemLoc.dma cc1_scoped0.sem : SemLoc sig).isScoped .scVector = true; decide⟩),
    SparseCore.bigSep_erase' (Finset.mem_erase.mpr ⟨by simp [inCell, thrCell]; decide, (mem_ownCells (g := thrCell d (cV L) (jV L))).mpr ⟨rfl, by
      show (SemLoc.dma cc1_scoped1.sem : SemLoc sig).isScoped .scVector = true; decide⟩⟩),
    SparseCore.bigSep_erase' (Finset.mem_erase.mpr ⟨by simp [thrCell, tabCell]; decide, Finset.mem_erase.mpr ⟨by simp [inCell, tabCell]; decide,
      (mem_ownCells (g := tabCell d (cV L) (jV L))).mpr ⟨rfl, by show (SemLoc.dma cc1_scoped2.sem : SemLoc sig).isScoped .scVector = true; decide⟩⟩⟩),
    SparseCore.bigSep_erase' (Finset.mem_erase.mpr ⟨by simp [tabCell, outCell]; decide, Finset.mem_erase.mpr ⟨by simp [thrCell, outCell]; decide,
      Finset.mem_erase.mpr ⟨by simp [inCell, outCell]; decide, (mem_ownCells (g := outCell d (cV L) (jV L))).mpr ⟨rfl, by
        show (SemLoc.dma cc1_scoped3.sem : SemLoc sig).isScoped .scVector = true; decide⟩⟩⟩⟩)]

abbrev vRef (L : grid1.Coords) (b : Ref sig .scVector) : DevRef τ sig := (Proc.scVector (cV L) (jV L)).devRef b

/-- A buffer that a tile owns is among its buffers. -/
theorem vRef_mem (b : Ref sig .scVector) (h : (vRef L b).owner = .proc (.scVector (cV L) (jV L))) : vRef L b ∈ ownRefs (τ := τ) (sig := sig) (.scVector (cV L) (jV L)) :=
  SparseCore.Cfg.mem_ownRefs_of_owner (p := Proc.scVector (cV L) (jV L)) (b := vRef L b) h

/-- And still is when another is taken out. -/
theorem vRef_erase {b b' : Ref sig .scVector} (hne : b ≠ b') {s : Finset (DevRef τ sig)} (h : vRef L b ∈ s) : vRef L b ∈ s.erase (vRef L b') :=
  Finset.mem_erase.mpr ⟨fun e => hne (Proc.devRef_injective _ e), h⟩

/-- The tile's own buffers: its seven scratches, each at some contents, and the rest. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f) ∗ (∃ f, (V d (cV L) (jV L)).loc cc1_scratch2 ↦{fullShare} f) ∗ (∃ f, (V d (cV L) (jV L)).loc cc1_scratch3 ↦{fullShare} f) ∗ (∃ f, (V d (cV L) (jV L)).loc cc1_scratch4 ↦{fullShare} f) ∗ (∃ f, (V d (cV L) (jV L)).loc cc1_scratch5 ↦{fullShare} f) ∗ (∃ f, (V d (cV L) (jV L)).loc cc1_scratch6 ↦{fullShare} f)
          ∗ bigSep ((((((((ownRefs (τ := τ) (sig := sig) (.scVector (cV L) (jV L))).erase (vRef L cc1_scratch0)).erase (vRef L cc1_scratch1)).erase (vRef L cc1_scratch2)).erase (vRef L cc1_scratch3)).erase (vRef L cc1_scratch4)).erase (vRef L cc1_scratch5)).erase (vRef L cc1_scratch6))
              fun b => iprop(∃ f, ((d, b) : Loc nD τ sig) ↦{fullShare} f)) := by
  unfold SparseCore.Cfg.ownBufs
  refine (SparseCore.bigSep_erase' (vRef_mem L cc1_scratch0 rfl)).trans ?_
  rw [SparseCore.bigSep_erase' (vRef_erase L (show (cc1_scratch1 : Ref sig .scVector) ≠ cc1_scratch0 by decide) (vRef_mem L cc1_scratch1 rfl)),
    SparseCore.bigSep_erase' (vRef_erase L (show (cc1_scratch2 : Ref sig .scVector) ≠ cc1_scratch1 by decide) (vRef_erase L (show (cc1_scratch2 : Ref sig .scVector) ≠ cc1_scratch0 by decide) (vRef_mem L cc1_scratch2 rfl))),
    SparseCore.bigSep_erase' (vRef_erase L (show (cc1_scratch3 : Ref sig .scVector) ≠ cc1_scratch2 by decide) (vRef_erase L (show (cc1_scratch3 : Ref sig .scVector) ≠ cc1_scratch1 by decide) (vRef_erase L (show (cc1_scratch3 : Ref sig .scVector) ≠ cc1_scratch0 by decide) (vRef_mem L cc1_scratch3 rfl)))),
    SparseCore.bigSep_erase' (vRef_erase L (show (cc1_scratch4 : Ref sig .scVector) ≠ cc1_scratch3 by decide) (vRef_erase L (show (cc1_scratch4 : Ref sig .scVector) ≠ cc1_scratch2 by decide) (vRef_erase L (show (cc1_scratch4 : Ref sig .scVector) ≠ cc1_scratch1 by decide) (vRef_erase L (show (cc1_scratch4 : Ref sig .scVector) ≠ cc1_scratch0 by decide) (vRef_mem L cc1_scratch4 rfl))))),
    SparseCore.bigSep_erase' (vRef_erase L (show (cc1_scratch5 : Ref sig .scVector) ≠ cc1_scratch4 by decide) (vRef_erase L (show (cc1_scratch5 : Ref sig .scVector) ≠ cc1_scratch3 by decide) (vRef_erase L (show (cc1_scratch5 : Ref sig .scVector) ≠ cc1_scratch2 by decide) (vRef_erase L (show (cc1_scratch5 : Ref sig .scVector) ≠ cc1_scratch1 by decide) (vRef_erase L (show (cc1_scratch5 : Ref sig .scVector) ≠ cc1_scratch0 by decide) (vRef_mem L cc1_scratch5 rfl)))))),
    SparseCore.bigSep_erase' (vRef_erase L (show (cc1_scratch6 : Ref sig .scVector) ≠ cc1_scratch5 by decide) (vRef_erase L (show (cc1_scratch6 : Ref sig .scVector) ≠ cc1_scratch4 by decide) (vRef_erase L (show (cc1_scratch6 : Ref sig .scVector) ≠ cc1_scratch3 by decide) (vRef_erase L (show (cc1_scratch6 : Ref sig .scVector) ≠ cc1_scratch2 by decide) (vRef_erase L (show (cc1_scratch6 : Ref sig .scVector) ≠ cc1_scratch1 by decide) (vRef_erase L (show (cc1_scratch6 : Ref sig .scVector) ≠ cc1_scratch0 by decide) (vRef_mem L cc1_scratch6 rfl)))))))]

end Own

/-! ## The task -/

section Task
variable [FloatOps F] (d : Dev nD) (L : grid1.Coords)

/-- What a tile reads: the samples, the thresholds and the table, each at a share. -/
abbrev readPiece (q : PosShare TreeShare) (I : Buf (Elt F) (iLoc d)) (M : Buf (Elt F) (mLoc d)) (Tb : Buf (Elt F) (tLoc d)) : sProp 𝕄 :=
  iprop((iLoc d ↦{q} I) ∗ (mLoc d ↦{q} M) ∗ (tLoc d ↦{q} Tb))

/-- Between trips of the padding loop: the places passed hold 1000. -/
def fillInv (n : Nat) (_ : BitVec 32) : sProp 𝕄 :=
  iprop(∃ f : Vec F S32x32 .i32, ⌜Filled (16 * n) f⌝ ∗ ((sX).view.loc (V d (cV L) (jV L)) ↦{fullShare} f))
/-- Between trips of the quantising loop: the inputs passed have their levels stored. -/
def feedInv (X : Vec F S832 .f32) (n : Nat) (_ : BitVec 32) : sProp 𝕄 :=
  iprop(((sI).view.loc (V d (cV L) (jV L)) ↦{fullShare} X)
      ∗ ∃ f : Vec F S32x32 .i32, ⌜Fed X (16 * n) f⌝ ∗ ((sX).view.loc (V d (cV L) (jV L)) ↦{fullShare} f))

/-- The task: from read shares of the three arrays and the tile's rows, the rows at the result. -/
theorem tile_body (hF : (K (F := F)).Facts) (q : PosShare TreeShare) (I : Buf (Elt F) (iLoc d)) (M : Buf (Elt F) (mLoc d)) (Tb : Buf (Elt F) (tLoc d))
    (hM : ∀ j : S4096.Idx, BitVec.toNat (w := 32) ((show Vec F S4096 .i32 from M) j) ≤ 999) (f0 G : Buf (Elt F) (oLoc d)) (hG : G = outAt (F := F) I M Tb)
    (O : CellTallies nD τ sig (HIx 1)) (W : Waits sig (HIx 1)) (hO : ∀ g, O g none = 0) :
    iprop(levAts (K (F := F)).L (K (F := F)).lev ∗ emp
        ∗ (readPiece d q I M Tb ∗ rows d L f0 G 0)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1_enc L iV (Memref.isWhole_whole _) mV (Memref.isWhole_whole _) tV (Memref.isWhole_whole _) oV (Memref.isWhole_whole _)
            sI (Memref.isWhole_whole _) sX (Memref.isWhole_whole _) sM (Memref.isWhole_whole _) sT (Memref.isWhole_whole _) sH (Memref.isWhole_whole _)
            sS (Memref.isWhole_whole _) sO (Memref.isWhole_whole _) cc1_scratch7 cc1_scoped0 cc1_scoped1 cc1_scoped2 cc1_scoped3)
          fun _ => iprop((readPiece d q I M Tb ∗ rows d L f0 G 32)
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  rw [(K (F := F)).scopedBufs_V hF d (cV L) (jV L), SparseCore.Cfg.scopedSems0_V (Val := Elt F) d (cV L) (jV L), ownSems0_V, ownBufs_V]
  iintro ⟨#Hlv, -, ⟨⟨Hi, Hm, Ht⟩, HR⟩, ⟨⟨%fI, HI⟩, ⟨%fX, HX⟩, ⟨%fM, HM⟩, ⟨%fT, HT⟩, ⟨%fH, HH⟩, ⟨%fS, HS⟩, ⟨%fO, HO⟩, Hbufs⟩, ⟨HsemA, HsemB, HsemC, HsemD, Hsems⟩, Howes⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi := (show ((iLoc d ↦{q} I : sProp 𝕄)) ⊢ ((iRowK L).view.loc (V d (cV L) (jV L)) ↦{q} I) from Entails.rfl) $$ Hi
  ihave Hm := (show ((mLoc d ↦{q} M : sProp 𝕄)) ⊢ ((mV).view.loc (V d (cV L) (jV L)) ↦{q} M) from Entails.rfl) $$ Hm
  ihave Ht := (show ((tLoc d ↦{q} Tb : sProp 𝕄)) ⊢ ((tV).view.loc (V d (cV L) (jV L)) ↦{q} Tb) from Entails.rfl) $$ Ht
  ihave HI := (show ((V d (cV L) (jV L)).loc cc1_scratch0 ↦{fullShare} fI : sProp 𝕄) ⊢ ((sI).view.loc (V d (cV L) (jV L)) ↦{fullShare} fI) from Entails.rfl) $$ HI
  ihave HM := (show ((V d (cV L) (jV L)).loc cc1_scratch2 ↦{fullShare} fM : sProp 𝕄) ⊢ ((sM).view.loc (V d (cV L) (jV L)) ↦{fullShare} fM) from Entails.rfl) $$ HM
  ihave HT := (show ((V d (cV L) (jV L)).loc cc1_scratch3 ↦{fullShare} fT : sProp 𝕄) ⊢ ((sT).view.loc (V d (cV L) (jV L)) ↦{fullShare} fT) from Entails.rfl) $$ HT
  rw [cc1_enc_eq_skeleton]
  sl_unfold [cc1_enc_skel]
  sl_exec (disch := exact View.amount_pos _ _ (show 0 < S832.numel by decide))
  have eI : (sI).view.write (Elt F) fI (tile_body.sl.dma0 d L I) Finset.univ = slab I (wid L) (wid_lt L) :=
    (View.write_whole_univ cc1_scratch0 fI _).trans (read_iRowK L I)
  have eM : (sM).view.write (Elt F) fM (tile_body.sl.dma0_1 d M) Finset.univ = M := View.write_whole_univ cc1_scratch2 fM _
  have eT : (sT).view.write (Elt F) fT (tile_body.sl.dma0_2 d Tb) Finset.univ = Tb := View.write_whole_univ cc1_scratch3 fT _
  rw [eI, eM, eT]
  sl_for (fillInv (F := F) d L) $$ [HX]
  case region => intro k' r'; exact fill_trip d L k' r'
  · unfold fillInv
    iexists fX; isplitr; · ipureintro; exact filled_zero _
    iexact HX
  unfold fillInv
  iintro %_ ⟨%g1, %hg1, HX⟩
  rw [show Scf.trips k1_t1_loop.lb k1_t1_loop.ub k1_t1_loop.st = 64 from trips1] at hg1
  sl_for (feedInv (F := F) d L (slab I (wid L) (wid_lt L))) $$ [HI HX]
  case region => intro k' r'; exact feed_trip d L _ k' r'
  · unfold feedInv
    isplitl [HI]; · iexact HI
    iexists g1; isplitr; · ipureintro; exact fed_zero _ _ hg1
    iexact HX
  unfold feedInv
  iintro %_ ⟨HI, %g2, %hg2, HX⟩
  rw [show Scf.trips k1_t2_loop.lb k1_t2_loop.ub k1_t2_loop.st = 52 from trips2] at hg2
  sl_for (sampleInv (F := F) d L M Tb g2 f0 G O) $$ [Hmw HX HM HT HH HS HO HR HsemD Howes]
  case region =>
    intro k' r'
    refine sample_trip d L (slab I (wid L) (wid_lt L)) M hM Tb g2 hg2 f0 G O k' r' ?_
    subst hG
    exact outAt_row I M Tb L k'.val (lt_of_lt_of_eq k'.isLt trips3)
  · unfold sampleInv
    isplitl [Hmw]; · iexact Hmw
    isplitl [HX]; · iexact HX
    isplitl [HM]; · iexact HM
    isplitl [HT]; · iexact HT
    isplitl [HH]; · iexists fH; iexact HH
    isplitl [HS]; · iexists fS; iexact HS
    isplitl [HO]; · iexists fO; iexact HO
    isplitl [HR]; · iexact HR
    isplitl [HsemD]; · iexact HsemD
    iexists _; iexact Howes
  unfold sampleInv
  iintro %_ ⟨-, HX, HM, HT, ⟨%fH', HH⟩, ⟨%fS', HS⟩, ⟨%fO', HO⟩, HR, HsemD, %W', Howes⟩
  rw [show Scf.trips k1_t3_loop.lb k1_t3_loop.ub k1_t3_loop.st = 32 from trips3]
  sl_step
  isplitl [Hi Hm Ht HR]
  · isplitl [Hi Hm Ht]
    · isplitl [Hi]; · iexact Hi
      isplitl [Hm]; · iexact Hm
      iexact Ht
    iexact HR
  isplitl [HI HX HM HT HH HS HO Hbufs]
  · isplitl [HI]; · iexists _; iexact HI
    isplitl [HX]; · iexists _; iexact HX
    isplitl [HM]; · iexists _; iexact HM
    isplitl [HT]; · iexists _; iexact HT
    isplitl [HH]; · iexists _; iexact HH
    isplitl [HS]; · iexists _; iexact HS
    isplitl [HO]; · iexists _; iexact HO
    iexact Hbufs
  isplitl [HsemA HsemB HsemC HsemD Hsems]
  · isplitl [HsemA]; · iexact HsemA
    isplitl [HsemB]; · iexact HsemB
    isplitl [HsemC]; · iexact HsemC
    isplitl [HsemD]; · iexact HsemD
    iexact Hsems
  iexists W'; isplitr
  swap; · iexact Howes
  ipureintro; intro p _
  rcases p.2 with _ | c
  · exact .inr (.inl rfl)
  · exact .inr (.inr (congrArg some (Subsingleton.elim c 0)))

end Task

end Cert.Proof.Enc

end
-- ==== Proof.Region.lean ====
/-
  The TensorCore region: from the table `weight` it leaves, for every column, the threshold (how many rows hold the first
  row's entry, at most 999) and the fifty-four entries a result of that column can be.
-/
module

public import proofs.«01_k».proof.Proof.Setup
public import Idealize.ShloMosaic.Lib.Pipeline.ValueKit

@[expose] public section

noncomputable section

namespace Cert.Proof.Enc

open Cert.KernelIdeal Cert.KernelIdeal.Gen
open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Window BodyObligation cellOf)

variable {F : FTy → Type} [FloatOps F]
local notation "𝕄" => MT nD τ sig (HIx 1) (Elt F) ℕ UU ℕ

/-! ## What the region computes -/

/-- The first row, and the last. -/
def lowRow (w : Vec F S1000x4096 .f32) : Vec F S1x4096 .f32 := fun j => w (Shape.pair (d := ![1000, 4096]) ⟨0, by decide⟩ (j 1))
/-- The last row of the weights. -/
def topRow (w : Vec F S1000x4096 .f32) : Vec F S1x4096 .f32 := fun j => w (Shape.pair (d := ![1000, 4096]) ⟨999, by decide⟩ (j 1))

/-- The thresholds. -/
def thrOf (w : Vec F S1000x4096 .f32) : Vec F S1x4096 .i32 := k0_pay1 (lowRow w) w
/-- The table of results. -/
def tabOf (w : Vec F S1000x4096 .f32) : Vec F S54x4096 .f32 := k0_pay2 (lowRow w) (topRow w)

abbrev gW : Memref sig .tc .vmem S1000x4096 .f32 := stage0_0 0
abbrev gM : Memref sig .tc .vmem S1x4096 .i32 := stage0_1 0
abbrev gT : Memref sig .tc .vmem S54x4096 .f32 := stage0_2 0

/-- A store of a whole buffer leaves what was stored. -/
theorem writes_whole {κ : Kind} (b : Ref sig κ) {off : Fin b.ty.shape.rank → ℕ} (h : off = fun _ => 0)
    (inb : ∀ a, off a + b.ty.shape.size a ≤ b.ty.shape.size a) (f w : b.ty.Contents (Elt F)) :
    (Memref.whole b : Memref sig κ _ _ _).view.writes (Elt F) f [⟨Rect.unit off b.ty.shape.size inb, w⟩] = w := by
  subst h; exact Memref.write_access_unit_zero_univ (Elt F) b rfl inb f w

/-- The offsets of a whole buffer. -/
theorem zero2 : (![0, 0] : Fin 2 → ℕ) = fun _ => 0 := by decide +kernel

/-- The load of row 0. -/
theorem read_low (w : Vec F S1000x4096 .f32) :
    View.readAt (Elt F) (gW).view (Rect.unit (s := S1000x4096) ![0, 0] S1x4096.size inb_S1000x4096_S1x4096_0_0).toLoadRect w = lowRow w := by
  funext j
  show w _ = w _
  congr 1
  funext a; apply Fin.ext
  match a with
  | ⟨0, _⟩ =>
    have h : (j 0).val < 1 := (j 0).isLt
    show 0 + 1 * (j 0).val = 0; omega
  | ⟨1, _⟩ => show 0 + 1 * (j 1).val = (j 1).val; omega

/-- The load of row 999. -/
theorem read_top (w : Vec F S1000x4096 .f32) :
    View.readAt (Elt F) (gW).view (Rect.unit (s := S1000x4096) ![999, 0] S1x4096.size inb_S1000x4096_S1x4096_999_0).toLoadRect w = topRow w := by
  funext j
  show w _ = w _
  congr 1
  funext a; apply Fin.ext
  match a with
  | ⟨0, _⟩ =>
    have h : (j 0).val < 1 := (j 0).isLt
    show 999 + 1 * (j 0).val = 999; omega
  | ⟨1, _⟩ => show 0 + 1 * (j 1).val = (j 1).val; omega

/-- The load of all the weights. -/
theorem read_all (w : Vec F S1000x4096 .f32) :
    View.readAt (Elt F) (gW).view (Rect.unit (s := S1000x4096) ![0, 0] S1000x4096.size inb_S1000x4096_S1000x4096_0_0).toLoadRect w = w :=
  Memref.readAt_unit_zero (Elt F) cc0_stg0_0 zero2 _ w

/-- The store of the thresholds. -/
theorem write_thr (f w : Vec F S1x4096 .i32) :
    (gM).view.writes (Elt F) f [⟨Rect.unit (s := S1x4096) ![0, 0] S1x4096.size inb_S1x4096_S1x4096_0_0, w⟩] = w :=
  writes_whole cc0_stg1_0 zero2 _ f w

/-- The store of the table. -/
theorem write_tab (f w : Vec F S54x4096 .f32) :
    (gT).view.writes (Elt F) f [⟨Rect.unit (s := S54x4096) ![0, 0] S54x4096.size inb_S54x4096_S54x4096_0_0, w⟩] = w :=
  writes_whole cc0_stg2_0 zero2 _ f w

/-- The body's run over its three staging buffers. -/
theorem derive_run (c : Dev nD) (w : Vec F S1000x4096 .f32) (f1 : Vec F S1x4096 .i32) (f2 : Vec F S54x4096 .f32) (Q : PUnit → sProp 𝕄) :
    iprop(((gW).view.loc (c : Thread nD τ) ↦{fullShare} w) ∗ ((gM).view.loc (c : Thread nD τ) ↦{fullShare} f1) ∗ ((gT).view.loc (c : Thread nD τ) ↦{fullShare} f2)
        ∗ (iprop(((gW).view.loc (c : Thread nD τ) ↦{fullShare} w) ∗ ((gM).view.loc (c : Thread nD τ) ↦{fullShare} thrOf w) ∗ ((gT).view.loc (c : Thread nD τ) ↦{fullShare} tabOf w)) -∗ Q ⟨⟩))
      ⊢ wp frame (wpE (defs₀ (F := F)) Variants.none (c : Thread nD τ) none) Set.univ
          (cc0__derive_body (stage0_0 0) (hstage0_0 0) (stage0_1 0) (hstage0_1 0) (stage0_2 0) (hstage0_2 0)) Q := by
  iintro ⟨H0, H1, H2, Hk⟩
  rw [cc0__derive_body_eq_skeleton]
  sl_unfold [cc0__derive_body_skel]
  sl_exec
  sl_step
  rw [read_low, read_all, read_top, write_thr, write_tab]
  iapply Hk
  isplitl [H0]; · iexact H0
  isplitl [H1]; · iexact H1
  iexact H2

/-! ## The proof data -/

attribute [local irreducible] thrOf tabOf

variable (V : (c : Dev nD) → (b : Ref sig .tc) → Buf (Elt F) ((c : Thread nD τ).loc b))

/-- The table as the fetch stages it. -/
abbrev stg (c : Dev nD) : (cfg0.win 0).block.Idx → Elt F (cfg0.win 0).elt :=
  ((cfg0.win 0).blk t0_0).view.read (Elt F) (V c main_arg1)

/-- One entry of the region from valuation `V` that leaves `M` and `Tb` in its two results: the handshake's starts are
    owed throughout, and every wait recorded sits at the lowest level. -/
def datOf (c : Dev nD) (M : Vec F S1x4096 .i32) (Tb : Vec F S54x4096 .f32) : Dat τ (Elt F) (HIx 1) ℕ UU ℕ cfg0 c where
  A w := V c (Pipeline.arrRef spec0 w)
  after w _ := match w with
    | ⟨0, _⟩ => stg V c
    | ⟨1, _⟩ => M
    | ⟨2, _⟩ => Tb
  Φ _ := Pipeline.scopedRest (Ix := HIx 1) (Name := ℕ) (U := UU) (Lvl := ℕ) (Val := Elt F) spec0 c
  q _ := fullShare
  owed _ := (K (F := F)).Otc c 0
  recorded _ := {p | (K (F := F)).lev (T c, p.1) p.2 ≤ 0}

/-- … with the two results this kernel leaves. -/
def dat (c : Dev nD) : Dat τ (Elt F) (HIx 1) ℕ UU ℕ cfg0 c := datOf V c (thrOf (F := F) (stg V c)) (tabOf (F := F) (stg V c))

/-- The thresholds' array after the call's one step. -/
theorem arr_one (c : Dev nD) (M : Vec F S1x4096 .i32) (Tb : Vec F S54x4096 .f32) : (datOf V c M Tb).arrAt 1 cfg0.N = M :=
  (datOf V c M Tb).arrAt_eq_of_after_last 1 t0_0 (by decide +kernel) _ fun j => rfl

/-- The table's array after the call's one step. -/
theorem arr_two (c : Dev nD) (M : Vec F S1x4096 .i32) (Tb : Vec F S54x4096 .f32) : (datOf V c M Tb).arrAt 2 cfg0.N = Tb :=
  (datOf V c M Tb).arrAt_eq_of_after_last 2 t0_0 (by decide +kernel) _ fun j => rfl

/-- The body finds the weights in its staging buffer. -/
theorem before_in (c : Dev nD) (d : (cfg0.win 0).block.Idx → Elt F (cfg0.win 0).elt) : (dat V c).before 0 t0_0 d = stg V c := by
  unfold Dat.before; rw [if_pos (by decide)]; rfl

/-- The TensorCore body, run from the weights, leaves the thresholds and the table. -/
theorem body_obligation (c : Dev nD) : BodyObligation (dat V c) (defs₀ (F := F)) 𝒱₀ none Set.univ := fun t => by
  obtain rfl := fin_N0 t
  rw [bigSep_W0, bigSep_W0]
  simp only [owns_whole_eq]
  rw [show (dat V c).Φ t0_0.castSucc = (dat V c).Φ t0_0.succ from rfl,
    show (dat V c).owesAt none t0_0.succ = (dat V c).owesAt none t0_0.castSucc from rfl]
  iintro ⟨HΦ, Howes, ⟨%d0, %f0, %hf0, H0⟩, ⟨%d1, %f1, -, H1⟩, ⟨%d2, %f2, -, H2⟩⟩
  rw [before_in] at hf0
  subst hf0
  iapply (derive_run (F := F) c (stg V c) f1 f2 _)
  isplitl [H0]; · iexact H0
  isplitl [H1]; · iexact H1
  isplitl [H2]; · iexact H2
  iintro ⟨H0, H1, H2⟩
  isplitl [HΦ]; · iexact HΦ
  isplitl [Howes]; · iexact Howes
  isplitl [H0]; · iexists _; isplitr; swap; (· iexact H0); ipureintro; dsimp only [dat, datOf]
  isplitl [H1]; · iexists _; isplitr; swap; (· iexact H1); ipureintro; dsimp only [dat, datOf]
  iexists _; isplitr; swap; (· iexact H2); ipureintro; dsimp only [dat, datOf]

/-- The one block of the weights is all of them. -/
theorem stg_eq (c : Dev nD) : (stg V c : Vec F S1000x4096 .f32) = V c main_arg1 := by
  funext j
  show V c main_arg1 (((cfg0.win 0).rect t0_0).emb j) = V c main_arg1 j
  refine congrArg (V c main_arg1) ?_
  have hz : ∀ a, (cfg0.win 0).index t0_0 a = 0 := by decide +kernel
  funext a; apply Fin.ext
  exact Window.rect_emb_val_of_index_zero _ _ _ (hz a) j

/-- What the region leaves in the thresholds' array, and in the table's. -/
theorem arr_thr (c : Dev nD) : (dat V c).arrAt 1 cfg0.N = thrOf (F := F) (V c main_arg1) :=
  (arr_one V c _ _).trans (by rw [stg_eq V c])

/-- After the call the second output is the table. -/
theorem arr_tab (c : Dev nD) : (dat V c).arrAt 2 cfg0.N = tabOf (F := F) (V c main_arg1) :=
  (arr_two V c _ _).trans (by rw [stg_eq V c])

/-! ## The region over the thread state -/

variable (adm : (p : Fin 1) → (pcfgs (F := F) p).Adm)

/-- The one pipeline's contents. -/
def pdats : (p : Fin 1) → (c : Dev nD) → Dat τ (Elt F) (HIx 1) ℕ UU ℕ (Pipeline.pin (pcfgs (F := F)) adm p) c
  | ⟨0, _⟩ => fun c => dat V c

/-- The TensorCore owes nothing on an unnamed cell. -/
theorem owed_none (d : Dev nD) (g : GSem nD τ sig) : (K (F := F)).Otc d 0 g none = 0 := by
  rcases Nat.eq_zero_or_pos ((K (F := F)).Otc d 0 g none) with h | h
  · exact h
  · have := (K (F := F)).lev_of_Otc_pos h
    rw [(K (F := F)).lev_none] at this
    exact absurd this (by omega)

variable (Vp : (c : Dev nD) → (b : Ref sig .tc) → Buf (Elt F) ((c : Thread nD τ).loc b))

/-- What the TensorCore owes while the region runs, and the waits it has recorded. -/
abbrev owing (c : Dev nD) : sProp 𝕄 :=
  iprop(∃ W, ⌜(K (F := F)).WBelow (T c) W 0⌝ ∗ owes (T c) ((K (F := F)).Otc c 0) W)

set_option backward.isDefEq.respectTransparency.types false in
/-- The region, entered with every unscoped buffer at `V` and left with them at `Vp`. -/
def reg (hm : ∀ c, Vp c main_v0_0 = thrOf (F := F) (V c main_arg1)) (ht : ∀ c, Vp c main_v0_1 = tabOf (F := F) (V c main_arg1))
    (hne : ∀ c (b : Ref sig .tc), b ≠ main_v0_0 → b ≠ main_v0_1 → Vp c b = V c b) :
    Pipeline.RegionSeg (pcfgs (F := F)) adm (pdats V adm) none defs₀ 𝒱₀ (K (F := F)).L (K (F := F)).lev 0 where
  win := (launch0).win.to₀
  block_pos := (launch0).block_pos
  stage_whole := (launch0).stage_whole
  K := PEmpty
  osem k := k.elim
  ho := Pipeline.OwnSemFacts.none _
  hbody c := (body_obligation V c).loose
  hwaits c := Pipeline.cellsWaits_intro _ _ _ _ _ fun w s t => (K (F := F)).mayWait_none (thr := T c) (.dma _) fun g => owed_none c g
  pre c := iprop(unscopedBufs c (V c) ∗ owing c)
  post c := iprop(unscopedBufs c (Vp c) ∗ owing c)
  X _ := BI.emp
  Y _ := BI.emp
  Z c := Pipeline.unscopedRest (Ix := HIx 1) (Name := ℕ) (U := UU) (Lvl := ℕ) spec0 c (V c)
  hentry c := by
    rw [Pipeline.ownSems0_none]
    have hsplit := Pipeline.arrays_of_unscopedBufs (p := 0) (pcfgs (F := F)) adm (pdats V adm) (launch0).win (launch0).arr_whole c
      ((pdats V adm 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats V adm 0 c).Φ 0 = Pipeline.scopedRest (Pipeline.pin pcfgs adm 0).spec c from rfl]
    iintro ⟨-, -, Hr⟩; iexact Hr
  hout c := by
    rw [Pipeline.ownSems0_none, show (pdats V adm 0 c).Φ (Fin.last _) = Pipeline.scopedRest (Pipeline.pin pcfgs adm 0).spec c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) (launch0).win (launch0).arr_whole c
      (pdats V adm) ((pdats V adm 0 c).share_full fun _ => rfl) (V c) (Vp c) ((pdats V adm 0 c).arrAt · cfg0.N)
      (fun w => by
        fin_cases w
        · exact ((pdats V adm 0 c).arrAt_in 0 rfl _).trans (hne c main_arg1 (by decide) (by decide)).symm
        · exact (arr_thr V c).trans (hm c).symm
        · exact (arr_tab V c).trans (ht c).symm)
      (fun b hb => hne c b (fun h => hb (h ▸ Finset.mem_image.mpr ⟨1, Finset.mem_univ _, rfl⟩))
        (fun h => hb (h ▸ Finset.mem_image.mpr ⟨2, Finset.mem_univ _, rfl⟩)))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro
      intro p hp
      rcases hW hp with h | ⟨w, s, rfl⟩
      · exact h
      · exact le_of_eq ((K (F := F)).lev_none _)
    iexact HO

end Cert.Proof.Enc

end
-- ==== Proof.Payload.lean ====
/-
  What the one SparseCore call takes and brings back: tile `(c, i)` a read share of the flattened input, the thresholds
  and the table, and its thirty-two rows of the result, which it brings back written. Below, the two hundred and fifty-six
  kibibytes a tile holds are.
-/
module

public import proofs.«01_k».proof.Proof.Tile
public import proofs.«01_k».proof.Proof.Region

@[expose] public section

noncomputable section

namespace Cert.Proof.Enc

open Cert.KernelIdeal Cert.KernelIdeal.Gen
open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig (HIx 1) (Elt F) ℕ UU ℕ

variable (m : (ℓ : Loc nD τ sig) → Buf (Elt F) ℓ)

/-! ## The arrays the call reads -/

/-- The samples, flattened. -/
def Iv (d : Dev nD) : Vec F S26624 .f32 := shapeCast S26624 (m ((SparseCore.T d).loc main_arg0) : Vec F S1024x26 .f32) shapeCasts_S1024x26_S26624
/-- The thresholds, flattened. -/
def Mv (d : Dev nD) : Vec F S4096 .i32 := shapeCast S4096 (thrOf (F := F) (m ((SparseCore.T d).loc main_arg1) : Vec F S1000x4096 .f32)) shapeCasts_S1x4096_S4096
/-- The table's first twenty-seven rows, flattened. -/
def Tv (d : Dev nD) : Vec F S110592 .f32 :=
  shapeCast S110592 (extractStridedSlice S27x4096 ![0, 0] (tabOf (F := F) (m ((SparseCore.T d).loc main_arg1) : Vec F S1000x4096 .f32)) slices_S54x4096_S27x4096_0_0) shapeCasts_S27x4096_S110592
/-- The result. -/
def Gv (d : Dev nD) : Buf (Elt F) (oLoc d) := outAt (F := F) (Iv m d) (Mv m d) (Tv m d)

/-- How many rows hold the first row's entry, column by column. -/
def countOf (w : Vec F S1000x4096 .f32) : IVec S4096 32 :=
  multiReductionI .add [0] S4096 (extui 32 (cmpf .oeq w (broadcastTo S1000x4096 (lowRow w) broadcasts_S1x4096_S1000x4096)) natLt_1_32) 0#32 reduces_S1000x4096_S4096 rfl

/-- A threshold is its column's count, clipped to 0 … 999. -/
theorem thrOf_apply (w : Vec F S1000x4096 .f32) (j : S1x4096.Idx) :
    thrOf w j = IntOp.minsi 999#32 (IntOp.maxsi 0#32 (shapeCast S1x4096 (countOf w) shapeCasts_S4096_S1x4096 j)) := by
  unfold thrOf k0_pay1 countOf
  dsimp only
  rfl

/-- A threshold is at most 999. -/
theorem thrOf_le (w : Vec F S1000x4096 .f32) (j : S1x4096.Idx) : BitVec.toNat (w := 32) (thrOf w j) ≤ 999 := by
  rw [thrOf_apply]
  exact clip_le _

/-- A bound on every entry survives a reshape. -/
theorem cast_le (x : IVec S1x4096 32) (h : ∀ j, (x j).toNat ≤ 999) (j : S4096.Idx) : (shapeCast S4096 x shapeCasts_S1x4096_S4096 j).toNat ≤ 999 := h _

/-- A threshold is at most 999 as the tiles read it, so it names a bin. -/
theorem Mv_le (d : Dev nD) : ∀ j : S4096.Idx, BitVec.toNat (w := 32) (Mv m d j) ≤ 999 := by
  unfold Mv
  exact cast_le _ (thrOf_le _)

/-! ## The payloads -/

/-- The grid coordinates of a SparseCore and a tile. -/
def coordsV (c : Fin (grid1.bound 0)) (s : Fin (grid1.bound 1)) : grid1.Coords :=
  fun | 0 => c | 1 => s | ⟨_ + 2, h⟩ => absurd h (Nat.not_lt.2 (Nat.le_add_left _ _))

/-- Tile `L`'s read shares. -/
abbrev shareOf (L : grid1.Coords) : PosShare TreeShare := Transfers.shareTokN fullShare (wid L)
/-- What tile `L` holds with `n` of its rows written. -/
abbrev tilePiece (d : Dev nD) (L : grid1.Coords) (n : Nat) : sProp 𝕄 :=
  iprop(readPiece d (shareOf L) (Iv m d) (Mv m d) (Tv m d) ∗ rows d L (m (oLoc d)) (Gv m d) n)

instance (d : Dev nD) (L : grid1.Coords) (n : Nat) : BI.Storable (upEmb : UEmb _ 𝕄) (tilePiece m d L n) := by
  unfold tilePiece rows; infer_instance

/-- The call runs on as many SparseCores as its grid has. -/
theorem nCore_bound : (K (F := F)).nCore 0 = grid1.bound 0 := rfl
/-- And on as many tiles of each. -/
theorem nSub_bound : (K (F := F)).nSub 0 = grid1.bound 1 := rfl

/-- Every tile of SparseCore `c`. -/
abbrev corePiece (d : Dev nD) (c : Fin (grid1.bound 0)) (n : Nat) : sProp 𝕄 :=
  bigSep Finset.univ fun i : Fin (grid1.bound 1) => tilePiece m d (coordsV c i) n

instance (d : Dev nD) (c : Fin (grid1.bound 0)) (n : Nat) : BI.Storable (upEmb : UEmb _ 𝕄) (corePiece m d c n) := by
  unfold corePiece; infer_instance

/-- What the handshakes carry: out go the read shares and the rows to be written, back come the rows with the result. -/
def P : (K (F := F)).Pay (nD := nD) (Val := Elt F) (Name := ℕ) (U := UU) where
  st := fun q d c => match q with | 0 => corePiece m d (Fin.cast nCore_bound c) 0
  dn := fun q d c => match q with | 0 => corePiece m d (Fin.cast nCore_bound c) 32
  go := fun q d c i => match q with | 0 => tilePiece m d (coordsV (Fin.cast nCore_bound c) (Fin.cast nSub_bound i)) 0
  td := fun q d c i => match q with | 0 => tilePiece m d (coordsV (Fin.cast nCore_bound c) (Fin.cast nSub_bound i)) 32
  x := fun _ _ => iprop(emp)

/-- All of it may be stored in the handshakes' cells. -/
instance P_storable : (P (F := F) m).IsStorable where
  st q d c := match q with | 0 => (inferInstance : BI.Storable (upEmb : UEmb _ 𝕄) (corePiece m d (Fin.cast nCore_bound c) 0))
  dn q d c := match q with | 0 => (inferInstance : BI.Storable (upEmb : UEmb _ 𝕄) (corePiece m d (Fin.cast nCore_bound c) 32))
  go q d c i := match q with
    | 0 => (inferInstance : BI.Storable (upEmb : UEmb _ 𝕄) (tilePiece m d (coordsV (Fin.cast nCore_bound c) (Fin.cast nSub_bound i)) 0))
  td q d c i := match q with
    | 0 => (inferInstance : BI.Storable (upEmb : UEmb _ 𝕄) (tilePiece m d (coordsV (Fin.cast nCore_bound c) (Fin.cast nSub_bound i)) 32))

/-- A tile's body is the kernel at that tile's coordinates. -/
theorem defs₀_vector (c : Fin τ.nSC) (s : Fin τ.nSub) :
    defs₀ (F := F) (.scVector c s) 1 ()
      = SparseCore.onTile hcore1 hsub1 (fun c s => cc1_enc (coordsV c s)
          iV (Memref.isWhole_whole _) mV (Memref.isWhole_whole _) tV (Memref.isWhole_whole _) oV (Memref.isWhole_whole _)
          sI (Memref.isWhole_whole _) sX (Memref.isWhole_whole _) sM (Memref.isWhole_whole _) sT (Memref.isWhole_whole _) sH (Memref.isWhole_whole _)
          sS (Memref.isWhole_whole _) sO (Memref.isWhole_whole _) cc1_scratch7 cc1_scoped0 cc1_scoped1 cc1_scoped2 cc1_scoped3) ⟨⟩ c s := rfl

/-- The tile's obligation. -/
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body d (coordsV ⟨_, hci.1⟩ ⟨_, hci.2⟩) hF _ _ _ _ (Mv_le m d) _ _ rfl O W hO

/-- A SparseCore's share is its tiles'. -/
theorem vecSplit : (K (F := F)).VecSplit' (P m) 0 := by
  intro d c
  show corePiece m d c 0 ⊢ |={Set.univ}=> iprop(corePiece m d c 0 ∗ (corePiece m d c 32 -∗ corePiece m d c 32))
  iintro H; imodintro
  isplitl [H]; · iexact H
  iintro H; iexact H

end Cert.Proof.Enc

end
-- ==== Proof.Deal.lean ====
/-
  The four arrays dealt to the thirty-two tiles, and the result gathered from them: tile `(c, i)` is number `2 i + c`, its
  rows are the thirty-two from `32 (2 i + c)`, and every row is some tile's.
-/
module

public import proofs.«01_k».proof.Proof.Payload

@[expose] public section

noncomputable section

namespace Cert.Proof.Enc

open Cert.KernelIdeal Cert.KernelIdeal.Gen
open Idealize.ShloMosaic
open Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig (HIx 1) (Elt F) ℕ UU ℕ

/-- The tiles. -/
abbrev TileIx : Type := Fin 2 × Fin 16
/-- A tile's coordinates. -/
abbrev coordsT (p : TileIx) : grid1.Coords := coordsV p.1 p.2

/-- Tile number: twice the tile on its SparseCore plus the SparseCore. -/
theorem wid_coords (p : TileIx) : wid (coordsT p) = 2 * p.2.val + p.1.val := rfl

/-- The tiles are numbered 0 to 31. -/
def numT : TileIx ↪ ℕ := ⟨fun p => wid (coordsT p), by
  intro p q h
  have h : 2 * p.2.val + p.1.val = 2 * q.2.val + q.1.val := h
  have hp := p.1.isLt; have hq := q.1.isLt
  apply Prod.ext <;> apply Fin.ext <;> omega⟩

/-- The numbers 0 to 31 are those of the tiles, each once. -/
theorem range_tiles : Finset.range 32 = (Finset.univ : Finset TileIx).map numT := by
  ext n
  simp only [Finset.mem_range, Finset.mem_map, Finset.mem_univ, true_and]
  constructor
  · intro h
    refine ⟨(⟨n % 2, by omega⟩, ⟨n / 2, by omega⟩), ?_⟩
    show 2 * (n / 2) + n % 2 = n
    omega
  · rintro ⟨p, rfl⟩
    exact wid_lt _

/-- Every tile gets a read share of an array held whole. -/
theorem deal_shares {ℓ : Loc nD τ sig} (f : Buf (Elt F) ℓ) :
    (ℓ ↦{fullShare} f : sProp 𝕄) ⊢ bigSep Finset.univ fun p : TileIx => ℓ ↦{shareOf (coordsT p)} f := by
  have h : (ℓ ↦{fullShare} f : sProp 𝕄) ⊢ iprop((ℓ ↦{Transfers.shareDrop fullShare 32} f)
      ∗ BI.bigSep (Finset.range 32) fun i => ℓ ↦{Transfers.shareTokN fullShare i} f) := (Transfers.pointsTo_toks_range fullShare 32).1
  rw [range_tiles, bigSep_map] at h
  exact h.trans sep_elim_right

/-- The result whole is its rows, tile by tile. -/
theorem rows_all (d : Dev nD) (f : Buf (Elt F) (oLoc d)) :
    (oLoc d ↦{fullShare} f : sProp 𝕄) = bigSep Finset.univ fun p : TileIx => bigSep Finset.univ fun t : Fin k1_t3_loop.trips =>
      oLoc d ↦[rowSet (32 * wid (coordsT p) + t.val)]{fullShare} f := by
  have ht : ∀ t : Fin k1_t3_loop.trips, t.val < 32 := fun t => lt_of_lt_of_eq t.isLt trips3
  have hcover : (Finset.univ : Finset (TileIx × Fin k1_t3_loop.trips)).biUnion (fun q => rowSet (32 * wid (coordsT q.1) + q.2.val)) = Finset.univ := by
    ext j
    simp only [Finset.mem_biUnion, Finset.mem_univ, true_and, iff_true]
    have hj : (j 0).val < 1024 := (j 0).isLt
    refine ⟨((⟨(j 0).val / 32 % 2, by omega⟩, ⟨(j 0).val / 32 / 2, by omega⟩), ⟨(j 0).val % 32, by rw [trips3]; omega⟩), ?_⟩
    rw [mem_rowSet, wid_coords]
    show (j 0).val = 32 * (2 * ((j 0).val / 32 / 2) + (j 0).val / 32 % 2) + (j 0).val % 32
    omega
  have hdisj : ∀ q ∈ (Finset.univ : Finset (TileIx × Fin k1_t3_loop.trips)), ∀ q' ∈ (Finset.univ : Finset (TileIx × Fin k1_t3_loop.trips)), q ≠ q' →
      Disjoint (rowSet (32 * wid (coordsT q.1) + q.2.val)) (rowSet (32 * wid (coordsT q'.1) + q'.2.val)) := by
    intro q _ q' _ hne
    rw [Finset.disjoint_left]
    intro j h h'
    rw [mem_rowSet, wid_coords] at h h'
    apply hne
    have h1 := ht q.2; have h2 := ht q'.2
    have hp := q.1.1.isLt; have hq := q'.1.1.isLt
    apply Prod.ext
    · apply Prod.ext <;> apply Fin.ext <;> omega
    · apply Fin.ext; omega
  have h : (oLoc d ↦[(Finset.univ : Finset (TileIx × Fin k1_t3_loop.trips)).biUnion (fun q => rowSet (32 * wid (coordsT q.1) + q.2.val))]{fullShare} f : sProp 𝕄) = _ :=
    pointsTo_biUnion Finset.univ _ hdisj
  rw [hcover, bigSep_univ_prod] at h
  exact h

variable (m : (ℓ : Loc nD τ sig) → Buf (Elt F) ℓ)

/-- Before a tile writes, each of its rows holds what it held at the start. -/
theorem rows_zero (d : Dev nD) (L : grid1.Coords) (f0 G : Buf (Elt F) (oLoc d)) :
    rows d L f0 G 0 = bigSep Finset.univ fun t : Fin k1_t3_loop.trips => oLoc d ↦[rowSet (32 * wid L + t.val)]{fullShare} f0 :=
  bigSep_congr fun t _ => by rw [if_neg (Nat.not_lt_zero _)]

/-- After 32 samples each of the tile's rows holds the result. -/
theorem rows_done (d : Dev nD) (L : grid1.Coords) (f0 G : Buf (Elt F) (oLoc d)) :
    rows d L f0 G 32 = bigSep Finset.univ fun t : Fin k1_t3_loop.trips => oLoc d ↦[rowSet (32 * wid L + t.val)]{fullShare} G :=
  bigSep_congr fun t _ => by rw [if_pos (lt_of_lt_of_eq t.isLt trips3)]

/-- What the SparseCores are handed is what the 32 tiles start from. -/
theorem st0_eq (d : Dev nD) :
    (bigSep Finset.univ fun c : Fin ((K (F := F)).nCore 0) => (P m).st 0 d c) = bigSep Finset.univ fun p : TileIx => tilePiece m d (coordsT p) 0 :=
  (bigSep_univ_prod (fun p : TileIx => tilePiece m d (coordsT p) 0)).symm

/-- What the SparseCores hand back is what the 32 tiles end with. -/
theorem dn0_eq (d : Dev nD) :
    (bigSep Finset.univ fun c : Fin ((K (F := F)).nCore 0) => (P m).dn 0 d c) = bigSep Finset.univ fun p : TileIx => tilePiece m d (coordsT p) 32 :=
  (bigSep_univ_prod (fun p : TileIx => tilePiece m d (coordsT p) 32)).symm

/-- The arrays dealt out. -/
theorem deal (d : Dev nD) :
    iprop((iLoc d ↦{fullShare} Iv m d) ∗ (mLoc d ↦{fullShare} Mv m d) ∗ (tLoc d ↦{fullShare} Tv m d) ∗ (oLoc d ↦{fullShare} m (oLoc d)))
      ⊢ bigSep Finset.univ fun p : TileIx => tilePiece m d (coordsT p) 0 := by
  rw [bigSep_congr fun p _ => congrArg (fun X : sProp 𝕄 => iprop(readPiece d (shareOf (coordsT p)) (Iv m d) (Mv m d) (Tv m d) ∗ X)) (rows_zero d (coordsT p) (m (oLoc d)) (Gv m d))]
  rw [bigSep_sep', bigSep_sep', bigSep_sep', ← rows_all]
  iintro ⟨Hi, Hm, Ht, Ho⟩
  isplitr [Ho]
  · isplitl [Hi]; · iapply (deal_shares (Iv m d)); iexact Hi
    isplitl [Hm]; · iapply (deal_shares (Mv m d)); iexact Hm
    iapply (deal_shares (Tv m d)); iexact Ht
  · iexact Ho

/-- The result gathered. -/
theorem gather (d : Dev nD) :
    (bigSep Finset.univ fun p : TileIx => tilePiece m d (coordsT p) 32) ⊢ (oLoc d ↦{fullShare} Gv m d : sProp 𝕄) := by
  rw [bigSep_congr fun p _ => congrArg (fun X : sProp 𝕄 => iprop(readPiece d (shareOf (coordsT p)) (Iv m d) (Mv m d) (Tv m d) ∗ X)) (rows_done d (coordsT p) (m (oLoc d)) (Gv m d))]
  rw [bigSep_sep', ← rows_all]
  iintro ⟨-, Ho⟩
  iexact Ho

end Cert.Proof.Enc

end
-- ==== Proof.Host.lean ====
/-
  The host's steps on the TensorCore between the region and the SparseCore call: the samples, the thresholds and the
  table's first twenty-seven rows flattened, as valuations of the nine arrays.
-/
module

public import proofs.«01_k».proof.Proof.Deal

@[expose] public section

noncomputable section

namespace Cert.Proof.Enc

open Cert.KernelIdeal Cert.KernelIdeal.Gen
open Idealize.ShloMosaic
open Idealize.ShloMosaic.TcCoe
open Idealize.ShloMosaic.SparseCore.Cfg (HIx Pay)
open Idealize.ShloMosaic.StableHlo (held)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig (HIx 1) (Elt F) ℕ UU ℕ

variable (m : (ℓ : Loc nD τ sig) → Buf (Elt F) ℓ)

/-- The nine arrays. -/
abbrev rf (b : Ref sig .tc) : DevRef τ sig := Proc.devRef .tc b
/-- The nine arrays that the TensorCore's program names. -/
def S9 : Finset (DevRef τ sig) := {rf main_arg0, rf main_arg1, rf main_v0_0, rf main_v0_1, rf main_v1, rf main_v2, rf main_v3, rf main_v4, rf main_v5}

abbrev opX : HloOp τ sig (Elt F) := StableHlo.reshape main_arg0 main_v1 (rfl : (.f32 : EltTy) = .f32) shapeCasts_S1024x26_S26624
abbrev opM : HloOp τ sig (Elt F) := StableHlo.reshape main_v0_0 main_v2 (rfl : (.i32 : EltTy) = .i32) shapeCasts_S1x4096_S4096
abbrev opS : HloOp τ sig (Elt F) := StableHlo.unary main_v0_1 main_v3 ((extractStridedSlice S27x4096 ![0, 0] · slices_S54x4096_S27x4096_0_0) : (⟨S54x4096, .f32⟩ : BufTy).Contents (Elt F) → (⟨S27x4096, .f32⟩ : BufTy).Contents (Elt F))
abbrev opT : HloOp τ sig (Elt F) := StableHlo.reshape main_v3 main_v4 (rfl : (.f32 : EltTy) = .f32) shapeCasts_S27x4096_S110592

/-- At launch; after the region; before the SparseCore call. -/
def V0 (d : Dev nD) : Valuation τ sig (Elt F) := fun b => m (d, b)
/-- The arrays after the TensorCore call: the thresholds and the table written. -/
def V1 (d : Dev nD) : Valuation τ sig (Elt F) :=
  Function.update (Function.update (V0 m d) (rf main_v0_0) (thrOf (F := F) (m ((SparseCore.T d).loc main_arg1))))
    (rf main_v0_1) (tabOf (F := F) (m ((SparseCore.T d).loc main_arg1)))
/-- The arrays after the reshapes and the slice that follow it. -/
def V5 (d : Dev nD) : Valuation τ sig (Elt F) := (opT (F := F)).result ((opS (F := F)).result ((opM (F := F)).result ((opX (F := F)).result (V1 m d))))

/-- After the TensorCore call the first output holds the thresholds. -/
theorem V1_thr (d : Dev nD) : V1 m d (rf main_v0_0) = thrOf (F := F) (m ((SparseCore.T d).loc main_arg1)) :=
  (Function.update_of_ne (show rf main_v0_0 ≠ rf main_v0_1 by decide) _ _).trans (Function.update_self _ _ _)
/-- After the TensorCore call the second output holds the table. -/
theorem V1_tab (d : Dev nD) : V1 m d (rf main_v0_1) = tabOf (F := F) (m ((SparseCore.T d).loc main_arg1)) := Function.update_self _ _ _
/-- The TensorCore call leaves every other array as it was. -/
theorem V1_ne (d : Dev nD) (b : Ref sig .tc) (h : b ≠ main_v0_0) (h' : b ≠ main_v0_1) : V1 m d (rf b) = m ((SparseCore.T d).loc b) :=
  (Function.update_of_ne (StableHlo.devRef_ne_of_ne h') _ _).trans (Function.update_of_ne (StableHlo.devRef_ne_of_ne h) _ _)

/-- The host operations leave every array but their own four results. -/
theorem keep (d : Dev nD) (b : Ref sig .tc) (h1 : b ≠ main_v1) (h2 : b ≠ main_v2) (h3 : b ≠ main_v3) (h4 : b ≠ main_v4) :
    V5 m d (rf b) = V1 m d (rf b) := by
  unfold V5
  rw [StableHlo.reshape_result_ne (h := h4), StableHlo.unary_result_ne (h := h3), StableHlo.reshape_result_ne (h := h2),
    StableHlo.reshape_result_ne (h := h1)]

/-- The inputs are unchanged when the SparseCore call begins. -/
theorem V5_arg0 (d : Dev nD) : V5 m d (rf main_arg0) = m ((SparseCore.T d).loc main_arg0) :=
  (keep m d _ (by decide) (by decide) (by decide) (by decide)).trans (V1_ne m d _ (by decide) (by decide))
/-- So are the weights. -/
theorem V5_arg1 (d : Dev nD) : V5 m d (rf main_arg1) = m ((SparseCore.T d).loc main_arg1) :=
  (keep m d _ (by decide) (by decide) (by decide) (by decide)).trans (V1_ne m d _ (by decide) (by decide))
/-- So is the output's array. -/
theorem V5_out (d : Dev nD) : V5 m d (rf main_v5) = m (oLoc d) :=
  (keep m d _ (by decide) (by decide) (by decide) (by decide)).trans (V1_ne m d _ (by decide) (by decide))

/-- The flattened inputs, as the SparseCore call gets them. -/
theorem V5_x (d : Dev nD) : V5 m d (rf main_v1) = Iv m d := by
  unfold V5
  rw [StableHlo.reshape_result_ne (h := (by decide : main_v1 ≠ main_v4)), StableHlo.unary_result_ne (h := (by decide : main_v1 ≠ main_v3)),
    StableHlo.reshape_result_ne (h := (by decide : main_v1 ≠ main_v2)), StableHlo.reshape_result, V1_ne m d main_arg0 (by decide) (by decide)]
  rfl

/-- The flattened thresholds, as the SparseCore call gets them. -/
theorem V5_m (d : Dev nD) : V5 m d (rf main_v2) = Mv m d := by
  unfold V5
  rw [StableHlo.reshape_result_ne (h := (by decide : main_v2 ≠ main_v4)), StableHlo.unary_result_ne (h := (by decide : main_v2 ≠ main_v3)),
    StableHlo.reshape_result, StableHlo.reshape_result_ne (h := (by decide : main_v0_0 ≠ main_v1)), V1_thr]
  rfl

/-- The flattened first 27 rows of the table, as the SparseCore call gets them. -/
theorem V5_t (d : Dev nD) : V5 m d (rf main_v4) = Tv m d := by
  unfold V5
  rw [StableHlo.reshape_result, StableHlo.unary_result, StableHlo.reshape_result_ne (h := (by decide : main_v0_1 ≠ main_v2)),
    StableHlo.reshape_result_ne (h := (by decide : main_v0_1 ≠ main_v1)), V1_tab]
  rfl

/-- Holding the nine arrays, written out array by array. -/
theorem held_S9 (d : Dev nD) (W : Valuation τ sig (Elt F)) :
    (held (SparseCore.T d) S9 W : sProp 𝕄)
      = iprop(((SparseCore.T d).loc main_arg0 ↦{fullShare} W (rf main_arg0)) ∗ ((SparseCore.T d).loc main_arg1 ↦{fullShare} W (rf main_arg1))
          ∗ ((SparseCore.T d).loc main_v0_0 ↦{fullShare} W (rf main_v0_0)) ∗ ((SparseCore.T d).loc main_v0_1 ↦{fullShare} W (rf main_v0_1))
          ∗ ((SparseCore.T d).loc main_v1 ↦{fullShare} W (rf main_v1)) ∗ ((SparseCore.T d).loc main_v2 ↦{fullShare} W (rf main_v2))
          ∗ ((SparseCore.T d).loc main_v3 ↦{fullShare} W (rf main_v3)) ∗ ((SparseCore.T d).loc main_v4 ↦{fullShare} W (rf main_v4))
          ∗ (SparseCore.T d).loc main_v5 ↦{fullShare} W (rf main_v5)) := by
  unfold held S9
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

/-- The arrays a device starts with are those nine. -/
theorem unscopedBufs_held (d : Dev nD) (W : Valuation τ sig (Elt F)) :
    (unscopedBufs d (fun b => W (rf b)) : sProp 𝕄) = held (SparseCore.T d) S9 W := by
  unfold unscopedBufs
  rw [held_S9, show (Finset.univ.filter fun b : Ref sig .tc => ¬ b.isScoped)
      = {main_arg0, main_arg1, main_v0_0, main_v0_1, main_v1, main_v2, main_v3, main_v4, main_v5} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

/-- The nine arrays as the SparseCore call finds them. -/
theorem held_V5 (d : Dev nD) :
    (held (SparseCore.T d) S9 (V5 m d) : sProp 𝕄)
      = iprop(((SparseCore.T d).loc main_arg0 ↦{fullShare} m ((SparseCore.T d).loc main_arg0)) ∗ ((SparseCore.T d).loc main_arg1 ↦{fullShare} m ((SparseCore.T d).loc main_arg1))
          ∗ ((SparseCore.T d).loc main_v0_0 ↦{fullShare} V5 m d (rf main_v0_0)) ∗ ((SparseCore.T d).loc main_v0_1 ↦{fullShare} V5 m d (rf main_v0_1))
          ∗ (iLoc d ↦{fullShare} Iv m d) ∗ (mLoc d ↦{fullShare} Mv m d)
          ∗ ((SparseCore.T d).loc main_v3 ↦{fullShare} V5 m d (rf main_v3)) ∗ (tLoc d ↦{fullShare} Tv m d)
          ∗ oLoc d ↦{fullShare} m (oLoc d)) := by
  rw [held_S9, V5_arg0, V5_arg1, V5_x, V5_m, V5_t, V5_out]

/-- The inputs' reshape names arrays among the nine. -/
theorem hX : (opX (F := F)).bufs ⊆ S9 := show ({rf main_arg0, rf main_v1} : Finset (DevRef τ sig)) ⊆ S9 by decide
/-- So does the thresholds' reshape. -/
theorem hM : (opM (F := F)).bufs ⊆ S9 := show ({rf main_v0_0, rf main_v2} : Finset (DevRef τ sig)) ⊆ S9 by decide
/-- So does the slice of the table. -/
theorem hS : (opS (F := F)).bufs ⊆ S9 := show ({rf main_v0_1, rf main_v3} : Finset (DevRef τ sig)) ⊆ S9 by decide
/-- So does the reshape of that slice. -/
theorem hT : (opT (F := F)).bufs ⊆ S9 := show ({rf main_v3, rf main_v4} : Finset (DevRef τ sig)) ⊆ S9 by decide

end Cert.Proof.Enc

end
-- ==== Proof.Launch.lean ====
/-
  The program's run: from the launch's ghost state and the nine arrays, the TensorCore region, the host's reshapes, the
  SparseCore call; and what memory holds at the end.
-/
module

public import proofs.«01_k».proof.Proof.Host

@[expose] public section

noncomputable section

namespace Cert.Proof.Enc

open Cert.KernelIdeal Cert.KernelIdeal.Gen
open Idealize.ShloMosaic
open Idealize.ShloMosaic.TcCoe
open Idealize.ShloMosaic.SparseCore.Cfg (HIx Pay)
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig (HIx 1) (Elt F) ℕ UU ℕ

variable (m : (ℓ : Loc nD τ sig) → Buf (Elt F) ℓ) (ρ : Dev nD → PrngReg)

/-! ## The launch element -/

abbrev admT : (p : Fin 1) → (pcfgs (F := F) p).Adm := fun p => (cfgs p).toPCfg_adm
abbrev pcs : (p : Fin 1) → Pipeline.Cfg sig Λ₀ := Pipeline.pin (pcfgs (F := F)) admT
/-- The pipeline's semaphore cells are distinct. -/
theorem phinj : Function.Injective (Pipeline.cellOf (nD := nD) (τ := τ) (pcs (F := F))) := cellOf_inj

/-- The ghost state at launch: the handshakes' and the pipeline's tokens. -/
def u₀ : UU := (initOf (K (F := F)).hsCells (K (F := F)).hsToks,
  (initOf (Pipeline.cells (pcs (F := F)) phinj) (Pipeline.launchToks (pcs (F := F)) phinj), 1))

/-- The region's rounds on device `d`. -/
abbrev Gd (d : Dev nD) : sProp 𝕄 :=
  iprop(Pipeline.cellsGhost (pcs (F := F)) EP 0 d ∗ Pipeline.toksInit (pcs (F := F)) EP 0 d)

/-- The pipeline's part of the ghost state is owned through its own embedding. -/
theorem ownR (a : UP) : (BI.own (ER (F := F) (a, 1)) : sProp 𝕄) ⊢ BI.own (EP (F := F) a) := by
  exact BI.Entails.refl _

/-- Nothing, for each member of a set, is nothing. -/
theorem bigSep_emp' {I : Type} (s : Finset I) : (bigSep s fun _ => iprop(emp)) = (iprop(emp) : sProp 𝕄) := bigSep_emp_const s

/-- The ghost state at launch gives the handshakes' tokens and each device its region's. -/
theorem hu₀ : (ownU (u₀ (F := F)) : sProp 𝕄)
    ⊢ |={Set.univ}=> iprop(BI.own (EH (initOf (K (F := F)).hsCells (K (F := F)).hsToks)) ∗ (bigSep Finset.univ fun d : Dev nD => Gd (F := F) d)
        ∗ bigSep Finset.univ fun thr : Thread nD τ => bigSep Finset.univ fun q : Fin 1 => (P m).x q thr) := by
  unfold u₀
  iintro Hu
  ihave H := (ownU_pair (initOf (K (F := F)).hsCells (K (F := F)).hsToks) (initOf (Pipeline.cells (pcs (F := F)) phinj) (Pipeline.launchToks (pcs (F := F)) phinj), (1 : Counters))) $$ Hu
  icases H with ⟨HH, HR⟩
  ihave HP := (ownR (F := F) _) $$ HR
  imod (Pipeline.fund_ghost (pcs (F := F)) EP phinj) $$ HP with ⟨Hc, Ht⟩
  imodintro
  isplitl [HH]; · iexact HH
  isplitl [Hc Ht]
  · rw [bigSep_sep']
    isplitl [Hc]
    · rw [← bigSep_congr fun (d : Dev nD) _ => bigSep_univ_of_subsingleton (Φ := fun p => Pipeline.cellsGhost (pcs (F := F)) EP p d) (0 : Fin 1)]
      iexact Hc
    · rw [← bigSep_congr fun (d : Dev nD) _ => bigSep_univ_of_subsingleton (Φ := fun p => (Pipeline.toksInit (pcs (F := F)) EP p d : sProp 𝕄)) (0 : Fin 1)]
      iexact Ht
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The region -/

abbrev Vm : (c : Dev nD) → (b : Ref sig .tc) → Buf (Elt F) ((c : Thread nD τ).loc b) := fun c b => V0 m c (rf b)
abbrev Vq : (c : Dev nD) → (b : Ref sig .tc) → Buf (Elt F) ((c : Thread nD τ).loc b) := fun c b => V1 m c (rf b)

/-- The TensorCore call as a region of @main, from the arrays at launch to those after it. -/
def regM : Pipeline.RegionSeg (pcfgs (F := F)) admT (pdats (Vm m) admT) none defs₀ 𝒱₀ (K (F := F)).L (K (F := F)).lev 0 :=
  reg (Vm m) admT (Vq m) (fun c => V1_thr m c) (fun c => V1_tab m c) (fun c b h h' => V1_ne m c b h h')

/-- The region from its arrays, in the program below the SparseCore call. -/
theorem region_below [∀ e, Nonempty (Elt F e)] (d : Dev nD) (Φ : PUnit → sProp 𝕄) :
    iprop((iprop(boundary (d.tc : Thread nD τ) ∗ (regM m).post d) -∗ wp frame (wpE (D (F := F)) 𝒱 (d.tc : Thread nD τ) none) Set.univ (.ret ⟨⟩) Φ)
        ∗ boundary (d.tc : Thread nD τ) ∗ (regM m).pre d ∗ levAts (K (F := F)).L (K (F := F)).lev ∗ Gd (F := F) d)
      ⊢ wp frame (wpE (D (F := F)) 𝒱 (d.tc : Thread nD τ) none) Set.univ (.op (.customCall (Pipeline.entry 0) ()) .ret) Φ :=
  Pipeline.RegionSeg.wp (pcfgs (F := F)) admT (pdats (Vm m) admT) none phinj EP defs₀ 𝒱₀ (K (F := F)).L (K (F := F)).lev
    (regM m) d none (fun _ h => nomatch h) .ret Φ

/-- The region begins from the nine arrays at launch. -/
theorem pre_eq (d : Dev nD) : (regM m).pre d = iprop(held (SparseCore.T d) S9 (V0 m d) ∗ owing d) :=
  congrArg (fun X : sProp 𝕄 => iprop(X ∗ owing d)) (unscopedBufs_held d (V0 m d))
/-- The region ends with the thresholds and the table written. -/
theorem post_eq (d : Dev nD) : (regM m).post d = iprop(held (SparseCore.T d) S9 (V1 m d) ∗ owing d) :=
  congrArg (fun X : sProp 𝕄 => iprop(X ∗ owing d)) (unscopedBufs_held d (V1 m d))

/-- The region's call in @main. -/
theorem region_run [∀ e, Nonempty (Elt F e)] (d : Dev nD) (Φ : PUnit → sProp 𝕄) :
    iprop(((boundary (SparseCore.T d) ∗ (held (SparseCore.T d) S9 (V1 m d) ∗ owing d)) -∗ Φ ⟨⟩)
        ∗ boundary (SparseCore.T d) ∗ (held (SparseCore.T d) S9 (V0 m d) ∗ owing d) ∗ levAts (K (F := F)).L (K (F := F)).lev ∗ Gd (F := F) d)
      ⊢ wp frame (wpE ((K (F := F)).defs (D (F := F))) 𝒱 (SparseCore.T d) none) Set.univ
          (Prog.lift (.customCall (SparseCore.inner (Pipeline.entry 0)) ())) Φ := by
  have h := (region_below m d Φ).trans ((K (F := F)).wp_liftProg (D (F := F)) 𝒱 (SparseCore.T d) Set.univ none _ Φ)
  rw [pre_eq, post_eq, wp_ret] at h
  iintro ⟨Hk, Hrest⟩
  iapply h
  isplitl [Hk]
  · iintro H
    imodintro
    iapply Hk
    iexact H
  iexact Hrest

/-! ## @main on the TensorCore -/

/-- What @main leaves the claims: the two arguments as launched, the result. -/
abbrev FIN (d : Dev nD) : sProp 𝕄 :=
  iprop(((SparseCore.T d).loc main_arg0 ↦{fullShare} m ((SparseCore.T d).loc main_arg0)) ∗ ((SparseCore.T d).loc main_arg1 ↦{fullShare} m ((SparseCore.T d).loc main_arg1))
    ∗ oLoc d ↦{fullShare} Gv m d)

/-- The TensorCore's handshake state before the call, but for what it owes. -/
def tcSt' (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

/-- Before the SparseCore call the TensorCore owes its part of the handshake. -/
theorem tcSt_zero (d : Dev nD) : ((K (F := F)).tcSt EH d 0 : sProp 𝕄) = iprop(owing d ∗ tcSt' d 0) := rfl

/-- @main on device `d`'s TensorCore. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ Gd (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (SparseCore.T d) S9 (V0 m d) from unscopedBufs_held d (V0 m d)]
  simp only [main, wp_bind, wp_pure]
  iintro ⟨#Hctx, Hst, ⟨Hb, Hheld, Hts, -⟩, HG⟩
  ihave Hlev := (SparseCore.Cfg.ctx_levAts κ) $$ Hctx
  -- the region
  ihave Hst' := (Entails.of_eq (tcSt_zero (F := F) d)) $$ Hst
  icases Hst' with ⟨HO, Hst⟩
  iapply (region_run m d _) $$ [-]
  isplitr [Hb Hheld HO Hlev HG]
  swap
  · isplitl [Hb]; · iexact Hb
    isplitl [Hheld HO]
    · isplitl [Hheld]; · iexact Hheld
      iexact HO
    isplitl [Hlev]; · iexact Hlev
    iexact HG
  iintro ⟨Hb, Hheld, HO⟩
  -- the host's four operations
  iapply (wp_hlo_within 𝒱 (SparseCore.T d) none Set.univ (op := opX) (S := S9) hX (V := V1 m d)) $$ [Hb Hheld]
  · isplitl [Hb] <;> iassumption
  iintro ⟨Hb, Hheld⟩
  rw [wp_ret]; imodintro
  iapply (wp_hlo_within 𝒱 (SparseCore.T d) none Set.univ (op := opM) (S := S9) hM (V := (opX (F := F)).result (V1 m d))) $$ [Hb Hheld]
  · isplitl [Hb] <;> iassumption
  iintro ⟨Hb, Hheld⟩
  rw [wp_ret]; imodintro
  iapply (wp_hlo_within 𝒱 (SparseCore.T d) none Set.univ (op := opS) (S := S9) hS (V := (opM (F := F)).result ((opX (F := F)).result (V1 m d)))) $$ [Hb Hheld]
  · isplitl [Hb] <;> iassumption
  iintro ⟨Hb, Hheld⟩
  rw [wp_ret]; imodintro
  iapply (wp_hlo_within 𝒱 (SparseCore.T d) none Set.univ (op := opT) (S := S9) hT
    (V := (opS (F := F)).result ((opM (F := F)).result ((opX (F := F)).result (V1 m d))))) $$ [Hb Hheld]
  · isplitl [Hb] <;> iassumption
  iintro ⟨Hb, Hheld⟩
  rw [wp_ret]; imodintro
  -- the SparseCore call
  ihave Hh := (Entails.of_eq (show (held (SparseCore.T d) S9 ((opT (F := F)).result ((opS (F := F)).result ((opM (F := F)).result ((opX (F := F)).result (V1 m d))))) : sProp 𝕄)
    = _ from held_V5 (F := F) m d)) $$ Hheld
  icases Hh with ⟨Ha0, Ha1, -, -, Hi, Hm, -, Ht, Ho⟩
  iapply ((K (F := F)).wp_run (D (F := F)) 𝒱 (EH := EH) (P := P m) κ d 0) $$ [-]
  isplitr; · iexact Hctx
  isplitl [Hst HO]
  · iapply (Entails.of_eq (tcSt_zero (F := F) d).symm)
    isplitl [HO]; · iexact HO
    iexact Hst
  isplitl [Hi Hm Ht Ho]
  · rw [st0_eq]
    iapply (deal m d)
    isplitl [Hi]; · iexact Hi
    isplitl [Hm]; · iexact Hm
    isplitl [Ht]; · iexact Ht
    iexact Ho
  iintro ⟨Hst, Hdn⟩
  ihave Hdn' := (Entails.of_eq (dn0_eq m d)) $$ Hdn
  ihave Ho := (gather m d) $$ Hdn'
  imodintro
  isplitl [Hst]; · iexact Hst
  isplitr [Hb Hts]
  · isplitl [Ha0]; · iexact Ha0
    isplitl [Ha1]; · iexact Ha1
    iexact Ho
  isplitl [Hb] <;> iassumption

/-! ## What memory holds at the end -/

/-- At the end device `d` holds the result, and its two arguments are unchanged. -/
def fq (d : Dev nD) (s' : Phys nD τ sig (Elt F)) : Prop :=
  s'.mem.mem (oLoc d) = Gv m d ∧ s'.mem.mem ((SparseCore.T d).loc main_arg0) = m ((SparseCore.T d).loc main_arg0)
    ∧ s'.mem.mem ((SparseCore.T d).loc main_arg1) = m ((SparseCore.T d).loc main_arg1)

/-- What @main ends with says so of the final memory. -/
theorem hfin (d : Dev nD) (s' : Phys nD τ sig (Elt F)) : iprop(FIN m d ∗ SI s') ⊢ (⌜fq m d s'⌝ : sProp 𝕄) := by
  iintro ⟨⟨H0, H1, Ho⟩, HSI⟩
  ihave H := (persistent_entails_right (SI_pointsTo_agree (st := s') (ℓ := (SparseCore.T d).loc main_arg0) (I := Finset.univ) (q := fullShare) (f := m ((SparseCore.T d).loc main_arg0)))) $$ [HSI H0]
  · isplitl [HSI] <;> iassumption
  icases H with ⟨%h0, HSI, -⟩
  ihave H := (persistent_entails_right (SI_pointsTo_agree (st := s') (ℓ := (SparseCore.T d).loc main_arg1) (I := Finset.univ) (q := fullShare) (f := m ((SparseCore.T d).loc main_arg1)))) $$ [HSI H1]
  · isplitl [HSI] <;> iassumption
  icases H with ⟨%h1, HSI, -⟩
  ihave H := (SI_pointsTo_agree (st := s') (ℓ := oLoc d) (I := Finset.univ) (q := fullShare) (f := Gv m d)) $$ [HSI Ho]
  · isplitl [HSI] <;> iassumption
  icases H with %ho
  ipureintro
  exact ⟨funext fun i => ho i (Finset.mem_univ i), funext fun i => h0 i (Finset.mem_univ i), funext fun i => h1 i (Finset.mem_univ i)⟩

/-- The result at its value, the two arguments unchanged, every semaphore at rest. -/
def QC : PUnit × MemSt nD τ sig (Elt F) → Prop := fun r =>
  (∀ d : Dev nD, r.2.mem (oLoc d) = Gv m d ∧ r.2.mem ((SparseCore.T d).loc main_arg0) = m ((SparseCore.T d).loc main_arg0)
    ∧ r.2.mem ((SparseCore.T d).loc main_arg1) = m ((SparseCore.T d).loc main_arg1)) ∧ r.2.sem = fun _ => 0

/-- The run of the whole program, over any float values. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun d => Gd (F := F) d) (FIN m) (u₀ (F := F)) (sep_elim_left.trans (hu₀ m)) (hmain m ρ) (fq m) (hfin m) (QC m) (fun _ h hz => ⟨h, hz⟩)

end Cert.Proof.Enc

end
-- ==== Proof.Frames.lean ====
/-
  The frames: the one run of the kernel read at its arguments and at the counters, for the kernel as printed and for the
  idealized one; and the reference's run read at its arguments.
-/
module

public import proofs.«01_k».proof.Proof.Launch
public import proofs.«01_k».proof.Proof.Gen.Kernel
public import proofs.«01_k».proof.Proof.Gen.ReferenceIdeal.Run
public import proofs.«01_k».proof.Defs
public import Idealize.ShloMosaic.Lib.Quiescent

@[expose] public section

noncomputable section

namespace Cert.Proof.Enc

open Idealize.ShloMosaic Idealize.SL.Sem

/-- The two body tables are the same function: the idealized kernel rewrites no operation. -/
theorem bodies_eq : Cert.Kernel.defs₀ (F := Bits) = Cert.KernelIdeal.defs₀ (F := Bits) := by
  funext p l a
  cases p <;> match l, a with
    | 0, (t, s) => rfl
    | 1, _ => rfl

/-- So are the tables with the pipelines and the SparseCore call over them. -/
theorem defs_eq : Cert.Kernel.defs (F := Bits) = Cert.KernelIdeal.defs (F := Bits) := by
  unfold Cert.Kernel.defs Cert.KernelIdeal.defs
  rw [bodies_eq]
  rfl

/-- The kernel as printed runs to the end, its two arguments unchanged and every counter at zero. -/
theorem frame_kernel : Cert.quiescent_Kernel := fun m ρ _ => by
  rw [defs_eq]
  exact (θ_run Cert.KernelIdeal.defs _ _).mono (fun _ h => ⟨fun c => (h.1 c).2, h.2⟩) (run_main (F := Bits) m ρ)

/-- The idealized kernel does as well. -/
theorem frame_ideal : Cert.quiescent_KernelIdeal := fun m ρ _ =>
  (θ_run Cert.KernelIdeal.defs _ _).mono (fun _ h => ⟨fun c => (h.1 c).2, h.2⟩) (run_main (F := Ideal) m ρ)

/-- The idealized reference runs to the end, its two arguments unchanged; it declares no semaphore. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

end Cert.Proof.Enc

end
-- ==== Proof.Quantise.lean ====
/-
  The quantiser over the extended reals. The kernel adds a half, rounds toward zero and steps back from an odd integer it
  hit exactly; the reference rounds to the nearest even and clips before it converts. Both give the same word.
-/
module

public import proofs.«01_k».proof.Proof.Vals

@[expose] public section

noncomputable section

namespace Cert.Proof.Enc

open Cert.KernelIdeal Cert.KernelIdeal.Gen
open Idealize.ShloMosaic

/-- The level of a scaled input: the nearest integer, ties to even, clipped to 0 … 999. -/
def level : EReal → ℤ
  | ⊥ => 0
  | ⊤ => 999
  | (y : ℝ) => max 0 (min 999 (Ideal.roundHalfEven y))

/-- The level of a real number. -/
theorem level_coe (y : ℝ) : level (y : EReal) = max 0 (min 999 (Ideal.roundHalfEven y)) := rfl

/-- A level lies between 0 and 999. -/
theorem level_range (y : EReal) : 0 ≤ level y ∧ level y ≤ 999 := by
  induction y with
  | bot => decide
  | top => decide
  | coe y => rw [level_coe]; omega

/-- The level as a number below 1000. -/
def levelN (y : EReal) : ℕ := (level y).toNat

/-- A level is at most 999. -/
theorem levelN_le (y : EReal) : levelN y ≤ 999 := by
  have := level_range y
  unfold levelN; omega

/-- The word of a level reads as the level. -/
theorem level_word (y : EReal) : (BitVec.ofInt 32 (level y)).toNat = levelN y := by
  have := level_range y
  unfold levelN
  rw [BitVec.toNat_ofInt]; omega

/-- The literal 999 is the number 999. -/
theorem lit_999 : Ideal.ofBits .f32 0x4479C000#32 = ((999 : ℝ) : EReal) := by
  simp [Ideal.ofBits, Ideal.ieee, -EReal.coe_mul]; norm_num

/-- The literal one half is one half. -/
theorem lit_half : Ideal.ofBits .f32 0x3F000000#32 = ((1 / 2 : ℝ) : EReal) := by
  simp [Ideal.ofBits, Ideal.ieee, -EReal.coe_mul]; norm_num

/-! ## The kernel's words -/

/-- What the kernel does to the word `r` that it truncated `u` to. -/
def settle (tie : BitVec 1) (r : BitVec 32) : BitVec 32 :=
  IntOp.minsi 999#32 (IntOp.maxsi 0#32 (if tie &&& (IntOp.cmpi .eq (r &&& 1#32) 1#32) = 1#1 then r - 1#32 else r))

/-- The kernel's quantiser, with its tie test and its conversion named. -/
theorem quant_settle (x : EReal) : quant (F := Ideal) x
    = settle (Ideal.cmp .oeq (((Ideal.fptosi 32 (x * Ideal.ofBits .f32 0x4479C000#32 + Ideal.ofBits .f32 0x3F000000#32)).toInt : ℝ) : EReal)
        (x * Ideal.ofBits .f32 0x4479C000#32 + Ideal.ofBits .f32 0x3F000000#32))
      (Ideal.fptosi 32 (x * Ideal.ofBits .f32 0x4479C000#32 + Ideal.ofBits .f32 0x3F000000#32)) := rfl

/-- Clipping a word is clipping the integer it holds. -/
theorem clip_word (v : BitVec 32) : IntOp.minsi 999#32 (IntOp.maxsi 0#32 v) = BitVec.ofInt 32 (max 0 (min 999 v.toInt)) := by
  unfold IntOp.minsi IntOp.maxsi
  simp only [BitVec.slt, decide_eq_true_eq]
  have h9 : (999#32 : BitVec 32).toInt = 999 := by decide
  have h0 : (0#32 : BitVec 32).toInt = 0 := by decide
  split_ifs with h1 h2 h2 <;> simp only [h9, h0] at *
  · omega
  · rw [show max (0 : ℤ) (min 999 v.toInt) = 0 from by omega]; rfl
  · rw [show max (0 : ℤ) (min 999 v.toInt) = 999 from by omega]; rfl
  · rw [show max (0 : ℤ) (min 999 v.toInt) = v.toInt from by omega, BitVec.ofInt_toInt]

/-- The lowest bit of a word is set exactly where the word is odd. -/
theorem odd_word (r : BitVec 32) : IntOp.cmpi .eq (r &&& 1#32) 1#32 = BitVec.ofBool (decide (r.toInt % 2 = 1)) := by
  have e : (r &&& 1#32 = 1#32) ↔ r.toInt % 2 = 1 := by
    rw [← BitVec.toNat_inj, BitVec.toNat_and, show (1#32 : BitVec 32).toNat = 1 from rfl, Nat.and_one_is_mod, BitVec.toInt_eq_toNat_cond]
    have := r.isLt
    split_ifs <;> omega
  show BitVec.ofBool (r &&& 1#32 == 1#32) = _
  congr 1
  rw [Bool.eq_iff_iff, beq_iff_eq, decide_eq_true_eq]
  exact e

/-- The settled word is the clipped integer, stepped back by one where it is an odd tie. -/
theorem settle_eq (tie : Bool) (Z : ℤ) (h0 : -2147483648 ≤ Z) (h1 : Z ≤ 2147483647) :
    settle (BitVec.ofBool tie) (BitVec.ofInt 32 Z) = BitVec.ofInt 32 (max 0 (min 999 (if tie = true ∧ Z % 2 = 1 then Z - 1 else Z))) := by
  have hz : (BitVec.ofInt 32 Z).toInt = Z := by
    rw [BitVec.toInt_ofInt, Int.bmod_def]; omega
  unfold settle
  rw [clip_word, odd_word, hz]
  have hs : (BitVec.ofInt 32 Z - 1#32).toInt = (Z - 1).bmod (2 ^ 32) := by
    rw [BitVec.toInt_sub, hz, show (1#32 : BitVec 32).toInt = 1 from by decide]
  have key : (if BitVec.ofBool tie &&& BitVec.ofBool (decide (Z % 2 = 1)) = 1#1 then BitVec.ofInt 32 Z - 1#32 else BitVec.ofInt 32 Z).toInt
      = if tie = true ∧ Z % 2 = 1 then Z - 1 else Z := by
    by_cases ho : Z % 2 = 1
    · rw [decide_eq_true ho]
      cases tie
      · rw [if_neg (by decide), if_neg (fun h => Bool.noConfusion h.1), hz]
      · rw [if_pos (by decide), if_pos ⟨rfl, ho⟩, hs, Int.bmod_def]
        omega
    · rw [decide_eq_false ho, if_neg (show ¬ BitVec.ofBool tie &&& BitVec.ofBool false = 1#1 from by cases tie <;> decide), if_neg (fun h => ho h.2), hz]
  rw [key]

/-- Rounding to even is taking the floor of a half more and stepping back from an odd integer hit exactly. -/
theorem even_eq (y : ℝ) : Ideal.roundHalfEven y = if ((⌊y + 1 / 2⌋ : ℤ) : ℝ) = y + 1 / 2 ∧ ⌊y + 1 / 2⌋ % 2 = 1 then ⌊y + 1 / 2⌋ - 1 else ⌊y + 1 / 2⌋ := by
  have hf := Int.floor_le y
  have hl := Int.lt_floor_add_one y
  unfold Ideal.roundHalfEven
  dsimp only
  generalize ⌊y⌋ = f at *
  by_cases ha : y - f < 1 / 2
  · have e : ⌊y + 1 / 2⌋ = f := by rw [Int.floor_eq_iff]; constructor <;> linarith
    rw [if_pos ha, e, if_neg]
    rintro ⟨h, -⟩; linarith
  · by_cases hb : 1 / 2 < y - f
    · have e : ⌊y + 1 / 2⌋ = f + 1 := by rw [Int.floor_eq_iff]; push_cast; constructor <;> linarith
      rw [if_neg ha, if_pos hb, e, if_neg]
      rintro ⟨h, -⟩; push_cast at h; linarith
    · have e : ⌊y + 1 / 2⌋ = f + 1 := by rw [Int.floor_eq_iff]; push_cast; constructor <;> linarith
      rw [if_neg ha, if_neg hb, e]
      have ht : ((f + 1 : ℤ) : ℝ) = y + 1 / 2 := by push_cast; linarith
      by_cases he : Even f
      · rw [if_pos he, if_pos ⟨ht, by obtain ⟨k, hk⟩ := he; omega⟩]; omega
      · rw [if_neg he, if_neg]
        rintro ⟨-, h⟩
        exact he (by rw [Int.even_iff]; omega)

/-- Over a finite scaled input the kernel's word is the level's. -/
theorem settle_coe (y : ℝ) : settle (Ideal.cmp .oeq (((Ideal.fptosi 32 ((y + 1 / 2 : ℝ) : EReal)).toInt : ℝ) : EReal) ((y + 1 / 2 : ℝ) : EReal))
    (Ideal.fptosi 32 ((y + 1 / 2 : ℝ) : EReal)) = BitVec.ofInt 32 (level (y : EReal)) := by
  rw [level_coe, even_eq]
  generalize y + 1 / 2 = u
  obtain ⟨Z, hZ⟩ : ∃ Z : ℤ, Z = max (-2147483648) (min 2147483647 (if 0 ≤ u then ⌊u⌋ else ⌈u⌉)) := ⟨_, rfl⟩
  have hfp : Ideal.fptosi 32 (u : EReal) = BitVec.ofInt 32 Z := by rw [hZ]; rfl
  have hz : (BitVec.ofInt 32 Z).toInt = Z := by
    rw [BitVec.toInt_ofInt, Int.bmod_def]; omega
  have hc : Ideal.cmp .oeq ((Z : ℝ) : EReal) (u : EReal) = BitVec.ofBool (decide ((Z : ℝ) = u)) := by
    show BitVec.ofBool (decide (((Z : ℝ) : EReal) = (u : EReal))) = _
    simp only [EReal.coe_eq_coe_iff]
  rw [hfp, hz, hc, settle_eq _ Z (by omega) (by omega)]
  congr 1
  simp only [decide_eq_true_eq]
  have hf := Int.floor_le u
  have hl := Int.lt_floor_add_one u
  by_cases hu : 0 ≤ u
  · rw [if_pos hu] at hZ
    have h0 : 0 ≤ ⌊u⌋ := Int.floor_nonneg.mpr hu
    by_cases hb : ⌊u⌋ ≤ 2147483647
    · rw [show Z = ⌊u⌋ from by omega]
    · have hZ' : Z = 2147483647 := by omega
      split_ifs <;> omega
  · rw [if_neg hu] at hZ
    have h0 : ⌈u⌉ ≤ 0 := Int.ceil_le.mpr (by push_cast; linarith)
    have h1 : ⌊u⌋ ≤ 0 := by
      have : ⌊u⌋ < 1 := Int.floor_lt.mpr (by push_cast; linarith)
      omega
    split_ifs <;> omega

/-- The kernel's word of an input is its level's. -/
theorem quant_level (x : EReal) : quant (F := Ideal) x = BitVec.ofInt 32 (level (x * ((999 : ℝ) : EReal))) := by
  rw [quant_settle, lit_999, lit_half]
  generalize x * ((999 : ℝ) : EReal) = y
  induction y with
  | coe y => rw [← EReal.coe_add]; exact settle_coe y
  | top =>
    rw [EReal.top_add_coe]
    have h : Ideal.fptosi 32 (⊤ : EReal) = 2147483647#32 := by decide
    rw [h]
    show settle (BitVec.ofBool (decide (_ = (⊤ : EReal)))) _ = BitVec.ofInt 32 999
    generalize decide (_ = (⊤ : EReal)) = b
    cases b <;> decide
  | bot =>
    rw [EReal.bot_add]
    have h : Ideal.fptosi 32 (⊥ : EReal) = 2147483648#32 := by decide
    rw [h]
    show settle (BitVec.ofBool (decide (_ = (⊥ : EReal)))) _ = BitVec.ofInt 32 0
    generalize decide (_ = (⊥ : EReal)) = b
    cases b <;> decide

/-- The kernel's index of an input is the level of 999 times the input. -/
theorem quant_toNat (x : EReal) : (quant (F := Ideal) x).toNat = levelN (x * ((999 : ℝ) : EReal)) := by
  rw [quant_level, level_word]

/-! ## The reference's words -/

/-- The reference's word of a scaled input: rounded, clipped, converted. -/
theorem ref_word (y : EReal) : Ideal.fptosi 32 (min (((999#32 : BitVec 32).toInt : ℝ) : EReal) (max (((0#32 : BitVec 32).toInt : ℝ) : EReal) (Ideal.liftRound Ideal.roundHalfEven y)))
    = BitVec.ofInt 32 (level y) := by
  rw [show (999#32 : BitVec 32).toInt = 999 from by decide, show (0#32 : BitVec 32).toInt = 0 from by decide]
  induction y with
  | coe y =>
    rw [Ideal.liftRound_coe, level_coe]
    generalize Ideal.roundHalfEven y = n
    rw [show min (((999 : ℤ) : ℝ) : EReal) (max (((0 : ℤ) : ℝ) : EReal) ((n : ℝ) : EReal)) = (((min 999 (max 0 n) : ℤ) : ℝ) : EReal) from by
      have hm : Monotone fun z : ℤ => ((z : ℝ) : EReal) := fun a b h => EReal.coe_le_coe_iff.mpr (Int.cast_le.mpr h)
      exact (by rw [hm.map_min, hm.map_max])]
    show BitVec.ofInt 32 (max (-2147483648) (min 2147483647 (if (0 : ℝ) ≤ ((min 999 (max 0 n) : ℤ) : ℝ) then ⌊((min 999 (max 0 n) : ℤ) : ℝ)⌋ else ⌈((min 999 (max 0 n) : ℤ) : ℝ)⌉))) = _
    rw [Int.floor_intCast, Int.ceil_intCast, ite_self]
    congr 1
    omega
  | top =>
    rw [Ideal.liftRound_top, max_eq_right le_top, min_eq_left le_top]
    show BitVec.ofInt 32 (max (-2147483648) (min 2147483647 (if (0 : ℝ) ≤ ((999 : ℤ) : ℝ) then ⌊((999 : ℤ) : ℝ)⌋ else ⌈((999 : ℤ) : ℝ)⌉))) = _
    rw [Int.floor_intCast, Int.ceil_intCast, ite_self]; decide
  | bot =>
    rw [Ideal.liftRound_bot, max_eq_left bot_le, min_eq_right (by exact_mod_cast (by norm_num : (0 : ℝ) ≤ 999))]
    show BitVec.ofInt 32 (max (-2147483648) (min 2147483647 (if (0 : ℝ) ≤ ((0 : ℤ) : ℝ) then ⌊((0 : ℤ) : ℝ)⌋ else ⌈((0 : ℤ) : ℝ)⌉))) = _
    rw [Int.floor_intCast, Int.ceil_intCast, ite_self]; decide

end Cert.Proof.Enc

end
-- ==== Proof.KernelValue.lean ====
/-
  What the kernel's result holds over the extended reals, entry by entry: the table's cell, the count below a threshold and
  the threshold itself, each read at its coordinates in the two arguments.
-/
module

public import proofs.«01_k».proof.Proof.Payload
public import proofs.«01_k».proof.Proof.Quantise
public import Idealize.ShloMosaic.Lib.Pipeline.Value
public import Idealize.ShloMosaic.Lib.ValueIdxCore
public import Idealize.ShloMosaic.Lib.WordSum

@[expose] public section

noncomputable section

namespace Cert.Proof.Enc

open Cert.KernelIdeal Cert.KernelIdeal.Gen
open Idealize.ShloMosaic hiding ix1 ix2
open Idealize.ShloMosaic.ValueIdx (ix1 ix2)
open scoped BigOperators

/-- The literal 26 is the number 26. -/
theorem lit_26 : Ideal.ofBits .f32 0x41D00000#32 = ((26 : ℝ) : EReal) := by
  simp [Ideal.ofBits, Ideal.ieee, -EReal.coe_mul]; norm_num

/-- Entry `i` of column `p`, as the TensorCore reads the two rows it keeps. -/
theorem lowRow_apply (w : FVec Ideal S1000x4096 .f32) (p : Fin 4096) : lowRow (F := Ideal) w (ix2 0 p) = w (ix2 0 p) := by
  show w _ = w _
  congr 1
  funext a
  match a with
  | ⟨0, _⟩ => rfl
  | ⟨1, _⟩ => rfl

/-- Entry `p` of the other row it keeps is the column's last. -/
theorem topRow_apply (w : FVec Ideal S1000x4096 .f32) (p : Fin 4096) : topRow (F := Ideal) w (ix2 0 p) = w (ix2 999 p) := by
  show w _ = w _
  congr 1
  funext a
  match a with
  | ⟨0, _⟩ => rfl
  | ⟨1, _⟩ => rfl

/-- The column of row numbers holds `c` at row `c`. -/
theorem iota_row : ∀ c : Fin 54, iota .tc S54x1 32 [0] iota_S54x1_d0_w32 (ix2 c 0) = BitVec.ofNat 32 c.val := by
  decide +kernel

/-- A word below 54 reads as the number it is. -/
theorem small_toInt : ∀ c : Fin 54, (BitVec.ofNat 32 c.val).toInt = (c.val : ℤ) := by
  decide +kernel

/-- Row `c` of the table of results at column `p`, over any two rows it is made of. -/
theorem table_row (v0 v1 : FVec Ideal S1x4096 .f32) (c : Fin 54) (p : Fin 4096) :
    k0_pay2 (F := Ideal) v0 v1 (ix2 c p)
      = Ideal.tanh (((26 : ℝ) : EReal) * v0 (ix2 0 p) + ((c.val : ℝ) : EReal) * (v1 (ix2 0 p) - v0 (ix2 0 p))) := by
  have e : k0_pay2 (F := Ideal) v0 v1 (ix2 c p)
      = Ideal.tanh (broadcastTo S54x4096 (mulf (broadcast S1x4096 (Ideal.ofBits .f32 0x41D00000#32) : FVec Ideal S1x4096 .f32) v0) broadcasts_S1x4096_S54x4096 (ix2 c p)
          + broadcastTo S54x4096 (sitofp .f32 (iota .tc S54x1 32 [0] iota_S54x1_d0_w32) : FVec Ideal S54x1 .f32) broadcasts_S54x1_S54x4096 (ix2 c p)
            * broadcastTo S54x4096 (subf v1 v0) broadcasts_S1x4096_S54x4096 (ix2 c p)) := rfl
  rw [e, broadcastTo_apply _ _ (ix2 c p) (ix2 0 p) (by intro a; fin_cases a <;> rfl),
    broadcastTo_apply _ _ (ix2 c p) (ix2 c 0) (by intro a; fin_cases a <;> rfl),
    broadcastTo_apply _ _ (ix2 c p) (ix2 0 p) (by intro a; fin_cases a <;> rfl)]
  show Ideal.tanh (Ideal.ofBits .f32 0x41D00000#32 * v0 (ix2 0 p)
    + (((iota .tc S54x1 32 [0] iota_S54x1_d0_w32 (ix2 c 0)).toInt : ℝ) : EReal) * (v1 (ix2 0 p) - v0 (ix2 0 p))) = _
  rw [iota_row, lit_26, small_toInt, Int.cast_natCast]

/-- The flattened table at the cell of `c` features over column `p`. -/
theorem table_cell (T : FVec Ideal S54x4096 .f32) (c : ℕ) (hc : c < 27) (p : ℕ) (hp : p < 4096) (h : c * 4096 + p < 110592) :
    shapeCast S110592 (extractStridedSlice S27x4096 ![0, 0] T slices_S54x4096_S27x4096_0_0) shapeCasts_S27x4096_S110592 (cellAt c p h)
      = T (ix2 ⟨c, by omega⟩ ⟨p, hp⟩) := by
  rw [shapeCast_apply _ _ (cellAt c p h) (ix2 ⟨c, hc⟩ ⟨p, hp⟩) (by
    rw [Shape.rowMajor_val_two, Shape.rowMajor_val_one]; rfl)]
  exact extractStridedSlice_apply _ _ _ _ _ (by
    intro a
    fin_cases a
    · exact (Nat.zero_add _).symm
    · exact (Nat.zero_add _).symm)

/-! ## The count below a threshold -/

/-- How many features of sample `b` have a level below `l`. -/
def belowOf (x : FVec Ideal S1024x26 .f32) (b : Fin 1024) (l : ℕ) : ℕ :=
  (Finset.univ.filter fun f : Fin 26 => levelN (x (ix2 b f) * ((999 : ℝ) : EReal)) < l).card

/-- The word in the tile's index table for feature `f` of sample `b` is that feature's level. -/
theorem tab_feature (x : FVec Ideal S1024x26 .f32) (b : Fin 1024) (f : Fin 26) :
    (tab (F := Ideal) (slab (F := Ideal) (shapeCast S26624 x shapeCasts_S1024x26_S26624) (b.val / 32) (by omega)) (b.val % 32) f.val).toNat
      = levelN (x (ix2 b f) * ((999 : ℝ) : EReal)) := by
  unfold tab
  rw [dif_pos ⟨f.isLt, by omega⟩, quant_toNat]
  congr 2
  exact shapeCast_apply x shapeCasts_S1024x26_S26624 _ (ix2 b f) (by
    rw [Shape.rowMajor_val_two, Shape.rowMajor_val_one]
    show b.val * 26 + f.val = 832 * (b.val / 32) + (26 * (b.val % 32) + f.val)
    omega)

/-- The tile's count below `l` is of the sample's 26 features: the padding lanes hold 1000. -/
theorem lower_eq (x : FVec Ideal S1024x26 .f32) (b : Fin 1024) (l : ℕ) (hl : l ≤ 1000) :
    lower (F := Ideal) (shapeCast S26624 x shapeCasts_S1024x26_S26624) b l = belowOf x b l := by
  unfold lower below belowOf
  symm
  refine Finset.card_bij (fun f _ => (⟨f.val, by omega⟩ : Fin 32)) ?_ ?_ ?_
  · intro f hf
    rw [Finset.mem_filter] at hf ⊢
    exact ⟨Finset.mem_univ _, by rw [tab_feature]; exact hf.2⟩
  · intro f _ g _ e
    exact Fin.ext (Fin.mk.inj e)
  · intro k hk
    rw [Finset.mem_filter] at hk
    have h26 : k.val < 26 := by
      by_contra hc
      have h2 := hk.2
      rw [tab_pad _ _ _ (by omega), show (1000#32 : BitVec 32).toNat = 1000 from rfl] at h2
      omega
    refine ⟨⟨k.val, h26⟩, ?_, rfl⟩
    rw [Finset.mem_filter]
    refine ⟨Finset.mem_univ _, ?_⟩
    rw [← tab_feature]; exact hk.2

/-! ## The threshold -/

/-- How many entries of column `p` are its first row's. -/
def lowCount (w : FVec Ideal S1000x4096 .f32) (p : Fin 4096) : ℕ :=
  (Finset.univ.filter fun i : Fin 1000 => w (ix2 i p) = w (ix2 0 p)).card

/-- A column has 1000 entries. -/
theorem lowCount_le (w : FVec Ideal S1000x4096 .f32) (p : Fin 4096) : lowCount w p ≤ 1000 :=
  (Finset.card_le_univ _).trans (by simp)

/-- The mark of an entry is 1 where it is its column's first, and 0 elsewhere. -/
theorem mark_toNat (w : FVec Ideal S1000x4096 .f32) (i : Fin 1000) (p : Fin 4096) :
    (extui 32 (cmpf .oeq w (broadcastTo S1000x4096 (lowRow (F := Ideal) w) broadcasts_S1x4096_S1000x4096)) natLt_1_32 (ix2 i p)).toNat
      = if w (ix2 i p) = w (ix2 0 p) then 1 else 0 := by
  have e : cmpf .oeq w (broadcastTo S1000x4096 (lowRow (F := Ideal) w) broadcasts_S1x4096_S1000x4096) (ix2 i p)
      = BitVec.ofBool (decide (w (ix2 i p) = w (ix2 0 p))) := by
    have h := broadcastTo_apply (lowRow (F := Ideal) w) broadcasts_S1x4096_S1000x4096 (ix2 i p) (ix2 0 p) (by intro a; fin_cases a <;> rfl)
    show BitVec.ofBool (decide (w (ix2 i p) = broadcastTo S1000x4096 (lowRow (F := Ideal) w) broadcasts_S1x4096_S1000x4096 (ix2 i p))) = _
    rw [h, lowRow_apply]
  show ((cmpf .oeq w (broadcastTo S1000x4096 (lowRow (F := Ideal) w) broadcasts_S1x4096_S1000x4096) (ix2 i p)).setWidth 32).toNat = _
  rw [e]
  by_cases hw : w (ix2 i p) = w (ix2 0 p)
  · rw [if_pos hw, decide_eq_true hw]; rfl
  · rw [if_neg hw, decide_eq_false hw]; rfl

/-- The entry that row `i` contributes to column `p`'s count. -/
theorem lift_eq (i : Fin 1000) (p : Fin 4096) : Shape.Reduces.lift reduces_S1000x4096_S4096 (ix1 p) i = ix2 i p := by
  funext a
  match a with
  | ⟨0, _⟩ => rfl
  | ⟨1, _⟩ => rfl

/-- The kernel's count for column `p` is the number of entries equal to the column's first. -/
theorem count_toNat (w : FVec Ideal S1000x4096 .f32) (p : Fin 4096) : (countOf (F := Ideal) w (ix1 p)).toNat = lowCount w p := by
  have hs : ∑ i ∈ Finset.univ.filter (fun i => reduces_S1000x4096_S4096.drop i = ix1 p),
      (extui 32 (cmpf .oeq w (broadcastTo S1000x4096 (lowRow (F := Ideal) w) broadcasts_S1x4096_S1000x4096)) natLt_1_32 i).toNat = lowCount w p := by
    rw [Shape.Reduces.sum_filter_drop_single reduces_S1000x4096_S4096]
    refine (Finset.sum_congr rfl fun i _ => ?_).trans (Finset.card_filter _ _).symm
    rw [show Shape.Reduces.lift reduces_S1000x4096_S4096 (ix1 p) i = ix2 i p from lift_eq i p]
    exact mark_toNat w i p
  unfold countOf
  exact (WordSum.toNat_multiReductionI_add _ _ _ _ (by rw [hs]; have := lowCount_le w p; omega)).trans hs

/-- The threshold of column `p`: its count of low entries, at most 999. -/
theorem thr_toNat (w : FVec Ideal S1000x4096 .f32) (p : Fin 4096) (j : S4096.Idx) (hj : j = ix1 p) :
    BitVec.toNat (w := 32) (shapeCast S4096 (thrOf (F := Ideal) w) shapeCasts_S1x4096_S4096 j) = min 999 (lowCount w p) := by
  subst hj
  rw [shapeCast_apply _ _ (ix1 p) (ix2 0 p) (by
      rw [Shape.rowMajor_val_two, Shape.rowMajor_val_one]
      show 0 * 4096 + p.val = p.val
      omega),
    thrOf_apply, shapeCast_apply _ _ (ix2 0 p) (ix1 p) (by
      rw [Shape.rowMajor_val_two, Shape.rowMajor_val_one]
      show p.val = 0 * 4096 + p.val
      omega), clip_word]
  have h1 := count_toNat w p
  have h2 := lowCount_le w p
  generalize countOf (F := Ideal) w (ix1 p) = v at h1
  rw [BitVec.toInt_eq_toNat_of_lt (by omega), BitVec.toNat_ofInt]
  omega

/-! ## The result -/

/-- What the kernel leaves at sample `b`, column `p`: the hyperbolic tangent of 26 low entries raised by one step for each
    feature at or above the column's threshold. -/
def stepped (x : FVec Ideal S1024x26 .f32) (w : FVec Ideal S1000x4096 .f32) (b : Fin 1024) (p : Fin 4096) : EReal :=
  Ideal.tanh (((26 : ℝ) : EReal) * w (ix2 0 p)
    + (((26 - belowOf x b (min 999 (lowCount w p)) : ℕ) : ℝ) : EReal) * (w (ix2 999 p) - w (ix2 0 p)))

/-- The kernel's result at sample `b`, column `p`. -/
theorem outAt_eq (x : FVec Ideal S1024x26 .f32) (w : FVec Ideal S1000x4096 .f32) (b : Fin 1024) (p : Fin 4096) :
    outAt (F := Ideal) (shapeCast S26624 x shapeCasts_S1024x26_S26624) (shapeCast S4096 (thrOf (F := Ideal) w) shapeCasts_S1x4096_S4096)
      (shapeCast S110592 (extractStridedSlice S27x4096 ![0, 0] (tabOf (F := Ideal) w) slices_S54x4096_S27x4096_0_0) shapeCasts_S27x4096_S110592) (ix2 b p)
      = stepped x w b p := by
  have hM := thr_toNat w p (at1 (n := 4096) p.val p.isLt) (by funext a; match a with | ⟨0, _⟩ => rfl)
  unfold outAt
  show shapeCast S110592 _ _ (cellAt (26 - lower (F := Ideal) (shapeCast S26624 x shapeCasts_S1024x26_S26624) b
    (BitVec.toNat (w := 32) (shapeCast S4096 (thrOf (F := Ideal) w) shapeCasts_S1x4096_S4096 (at1 (n := 4096) p.val p.isLt)))) p.val _) = _
  rw [table_cell _ _ (by omega) _ p.isLt]
  unfold tabOf
  rw [table_row, lowRow_apply, topRow_apply]
  unfold stepped
  dsimp only
  rw [hM, lower_eq x b _ (by omega)]

end Cert.Proof.Enc

end
-- ==== Proof.Bits.lean ====
/-
  Conjunctions of bits: an AND over a set is 1 exactly when every member is 1. The reference's range mask and the
  precondition's three tests are such conjunctions.
-/
module

public import Idealize.ShloMosaic.PureOps
public import Idealize.ShloMosaic.PureOps.Reduce

@[expose] public section

noncomputable section

namespace Cert.Proof.Enc

open Idealize.ShloMosaic

/-- The AND of two bits is 1 exactly when both are. -/
theorem and_bit (a b : BitVec 1) : IntOp.andi a b = 1#1 ↔ a = 1#1 ∧ b = 1#1 := by
  revert a b; decide

/-- The OR of two bits is 1 exactly when one of them is. -/
theorem or_bit (a b : BitVec 1) : IntOp.ori a b = 1#1 ↔ a = 1#1 ∨ b = 1#1 := by
  revert a b; decide

/-- An AND over a finite set, started from 1, is 1 exactly when every member is. -/
theorem all_bits {ι : Type} (s : Finset ι) (g : ι → BitVec 1) :
    s.fold IntOp.andi 1#1 g = 1#1 ↔ ∀ i ∈ s, g i = 1#1 := by
  classical
  induction s using Finset.induction_on with
  | empty => simp
  | insert a s ha ih =>
    rw [Finset.fold_insert ha, and_bit, ih]
    simp

/-- The AND of a whole array is 1 exactly when, at a result index, every entry that reduces to it is. -/
theorem reduce_bits {s t u : Shape} {axes : List (Fin s.rank)} (x : s.Idx → BitVec 1) (init : u.Idx → BitVec 1) (h : s.ReducesTo axes t)
    (hu : 0 < u.numel) (hinit : ∀ i, init i = 1#1) (j : t.Idx) :
    Host.reduce IntOp.andi x init h hu j = 1#1 ↔ ∀ i, h.drop i = j → x i = 1#1 := by
  rw [Host.reduce_eq_fold, hinit, all_bits]
  simp

end Cert.Proof.Enc

end
-- ==== Proof.ReferenceValue.lean ====
/-
  What the reference computes over the extended reals, entry by entry: the index of a feature, the row its lookup takes, and
  the hyperbolic tangent of the sum of 26 looked-up entries.
-/
module

public import proofs.«01_k».proof.Proof.Gen.ReferenceIdeal
public import proofs.«01_k».proof.Proof.Quantise
public import proofs.«01_k».proof.Proof.Bits
public import Idealize.ShloMosaic.Lib.Pipeline.Value
public import Idealize.ShloMosaic.Lib.ValueIdxCore
public import Idealize.ShloMosaic.Lib.IdealHost
public import Idealize.ShloMosaic.PureOps.Ideal.Laws

@[expose] public section

noncomputable section

namespace Cert.Proof.Enc

open Cert.ReferenceIdeal Cert.ReferenceIdeal.Gen
open Idealize.ShloMosaic
open Idealize.ShloMosaic.ValueIdx (ix0 ix1 ix2 ix3)
open scoped BigOperators

/-! ## The pieces of the reference -/

/-- The reference's indices: scaled inputs, rounded, clipped and turned into words. -/
def refLevels (x : FVec Ideal S1024x26 .f32) : IVec S1024x26 32 :=
  fptosi 32 (minimumf (broadcastInDim S1024x26 ![] bcast_S_S1024x26 (sitofp .f32 (constantI S_ 32 999#32))) (maximumf (broadcastInDim S1024x26 ![] bcast_S_S1024x26 (sitofp .f32 (constantI S_ 32 0#32))) (Host.roundeven (mulf x (broadcastInDim S1024x26 ![] bcast_S_S1024x26 (constant (F := Ideal) S_ .f32 0x4479C000#32))))))

/-- The start indices of the lookup: a negative index counts from the end. -/
def refStarts (q : IVec S1024x26 32) : IVec S1024x26x1 32 :=
  broadcastInDim S1024x26x1 ![0, 1] bcast_S1024x26_S1024x26x1_0_1 (select (cmpi .slt q (broadcastInDim S1024x26 ![] bcast_S_S1024x26 (constantI S_ 32 0#32))) (addi q (broadcastInDim S1024x26 ![] bcast_S_S1024x26 (constantI S_ 32 1000#32))) q)

/-- The mask of the lookup: the index is a row of the weights. -/
def refMask (i : IVec S1024x26x1 32) : IVec S1024x26 1 :=
  Host.reduce IntOp.andi (andi (cmpi .sge i (broadcastInDim S1024x26x1 ![] bcast_S_S1024x26x1 (constantI S_ 32 0#32))) (cmpi .sle i (broadcastInDim S1024x26x1 ![0, 1, 2] bcast_S1x1x1_S1024x26x1_0_1_2 (broadcastInDim S1x1x1 ![2] bcast_S1_S1x1x1_2 (constantI S1 32 999#32))))) (constantI S_ 1 1#1) reducesTo_S1024x26x1_S1024x26_d2 h_S_

/-- The looked-up rows. -/
def refRows (w : FVec Ideal S1000x4096 .f32) (i : IVec S1024x26x1 32) : FVec Ideal S1024x26x4096 .f32 :=
  select (broadcastInDim S1024x26x4096 ![0, 1] bcast_S1024x26_S1024x26x4096_0_1 (refMask i)) (Host.gather gather_S1000x4096_S1024x26x1_S1024x26x4096_2_0_n_n_0_2_14096 w i) (broadcastInDim S1024x26x4096 ![] bcast_S_S1024x26x4096 (constant (F := Ideal) S_ .f32 0x7FC00000#32))

/-- The reference's result from its two arguments. -/
def refOut (x : FVec Ideal S1024x26 .f32) (w : FVec Ideal S1000x4096 .f32) : FVec Ideal S1024x4096 .f32 :=
  Host.tanh (Host.reduceAdd (refRows w (refStarts (refLevels x))) (constant (F := Ideal) S_ .f32 0x00000000#32) reducesTo_S1024x26x4096_S1024x4096_d1 h_S_)

/-! ## Each piece at an index -/

/-- The reference's index of an input is the level of 999 times the input. -/
theorem refLevels_apply (x : FVec Ideal S1024x26 .f32) (j : S1024x26.Idx) :
    refLevels x j = BitVec.ofInt 32 (level (x j * ((999 : ℝ) : EReal))) := by
  rw [← ref_word, ← lit_999]
  rfl

/-- The same, as a number. -/
theorem refLevels_toNat (x : FVec Ideal S1024x26 .f32) (j : S1024x26.Idx) :
    (refLevels x j).toNat = levelN (x j * ((999 : ℝ) : EReal)) := by
  rw [refLevels_apply, level_word]

/-- A word that is a row's number is not below zero, and is at most 999. -/
theorem row_word (v : BitVec 32) (h : v.toNat ≤ 999) :
    IntOp.cmpi .slt v 0#32 = 0#1 ∧ IntOp.cmpi .sge v 0#32 = 1#1 ∧ IntOp.cmpi .sle v 999#32 = 1#1 := by
  have hi : v.toInt = v.toNat := BitVec.toInt_eq_toNat_of_lt (by omega)
  refine ⟨?_, ?_, ?_⟩
  · show BitVec.ofBool (v.slt 0#32) = 0#1
    rw [BitVec.slt_eq_decide, hi, decide_eq_false (by simp)]; rfl
  · show BitVec.ofBool ((0#32 : BitVec 32).sle v) = 1#1
    rw [BitVec.sle_eq_decide, hi, decide_eq_true (by simp)]; rfl
  · show BitVec.ofBool (v.sle 999#32) = 1#1
    rw [BitVec.sle_eq_decide, hi, decide_eq_true (by simp; omega)]; rfl

/-- An index that is a row's number is looked up as it is. -/
theorem refStarts_apply (q : IVec S1024x26 32) (b : Fin 1024) (f : Fin 26) (z : Fin 1) (h : (q (ix2 b f)).toNat ≤ 999) :
    refStarts q (ix3 b f z) = q (ix2 b f) := by
  unfold refStarts
  rw [broadcastInDim_apply _ _ _ (ix3 b f z) (ix2 b f) (by intro a; fin_cases a <;> rfl)]
  show Scalar.select (IntOp.cmpi .slt (q (ix2 b f)) 0#32) _ _ = _
  rw [(row_word _ h).1]
  rfl

/-- Where every index is a row's number the mask is set. -/
theorem refMask_apply (i : IVec S1024x26x1 32) (h : ∀ k, (i k).toNat ≤ 999) (j : S1024x26.Idx) : refMask i j = 1#1 := by
  unfold refMask
  refine (reduce_bits _ _ _ _ (fun _ => rfl) j).2 ?_
  intro k _
  show IntOp.andi (IntOp.cmpi .sge (i k) 0#32) (IntOp.cmpi .sle (i k) 999#32) = 1#1
  rw [(row_word _ (h k)).2.1, (row_word _ (h k)).2.2]
  rfl

/-- The lookup at sample `b`, feature `f`, column `p`: the row its start index names, held within the weights. -/
theorem lookup_apply (w : FVec Ideal S1000x4096 .f32) (i : IVec S1024x26x1 32) (b : Fin 1024) (f : Fin 26) (p : Fin 4096) :
    Host.gather gather_S1000x4096_S1024x26x1_S1024x26x4096_2_0_n_n_0_2_14096 w i (ix3 b f p)
      = w (ix2 ⟨min (i (ix3 b f 0)).toInt.toNat 999, by omega⟩ p) := by
  unfold Host.gather
  congr 1
  funext a
  refine Fin.ext ?_
  show GatherDims.start gather_S1000x4096_S1024x26x1_S1024x26x4096_2_0_n_n_0_2_14096 (ix3 b f p) i a
    + GatherDims.batchCoord gather_S1000x4096_S1024x26x1_S1024x26x4096_2_0_n_n_0_2_14096 (ix3 b f p) a
    + GatherDims.offCoord gather_S1000x4096_S1024x26x1_S1024x26x4096_2_0_n_n_0_2_14096 (ix3 b f p) a = _
  rw [GatherDims.batchCoord_eq_zero _ _ _ List.not_mem_nil]
  rcases (show a = (0 : Fin 2) ∨ a = (1 : Fin 2) from by revert a; decide) with rfl | rfl
  · rw [GatherDims.offCoord_eq_zero _ _ _ (fun h => ((GatherDims.mem_sKept _ _).mp h).1 (List.mem_singleton.mpr rfl))]
    unfold GatherDims.start
    rw [dif_pos (show (0 : Fin 2) ∈ gather_S1000x4096_S1024x26x1_S1024x26x4096_2_0_n_n_0_2_14096.startIndexMap from List.mem_singleton.mpr rfl)]
    have hsi : GatherDims.siIdx gather_S1000x4096_S1024x26x1_S1024x26x4096_2_0_n_n_0_2_14096 (ix3 b f p)
        ⟨List.idxOf (0 : Fin 2) gather_S1000x4096_S1024x26x1_S1024x26x4096_2_0_n_n_0_2_14096.startIndexMap,
          List.idxOf_lt_length_iff.2 (List.mem_singleton.mpr rfl)⟩ = ix3 b f 0 := by
      funext e
      refine Fin.ext ?_
      match e with
      | ⟨0, _⟩ => rfl
      | ⟨1, _⟩ => rfl
      | ⟨2, _⟩ => rfl
    rw [hsi]
    rfl
  · unfold GatherDims.start
    rw [dif_neg (show ¬ (1 : Fin 2) ∈ gather_S1000x4096_S1024x26x1_S1024x26x4096_2_0_n_n_0_2_14096.startIndexMap from by
      show ¬ (1 : Fin 2) ∈ [(0 : Fin 2)]; decide)]
    rw [Nat.zero_add]
    rfl

/-- A looked-up entry: the weight at the feature's level. -/
theorem refRows_apply (x : FVec Ideal S1024x26 .f32) (w : FVec Ideal S1000x4096 .f32) (b : Fin 1024) (f : Fin 26) (p : Fin 4096) :
    refRows w (refStarts (refLevels x)) (ix3 b f p)
      = w (ix2 ⟨levelN (x (ix2 b f) * ((999 : ℝ) : EReal)), Nat.lt_succ_of_le (levelN_le _)⟩ p) := by
  have hq : ∀ j, (refLevels x j).toNat ≤ 999 := fun j => by rw [refLevels_toNat]; exact levelN_le _
  have hs : ∀ k, (refStarts (refLevels x) k).toNat ≤ 999 := by
    intro k
    obtain ⟨b, f, z, rfl⟩ : ∃ b f z, k = ix3 (n0 := 1024) (n1 := 26) (n2 := 1) b f z := ⟨k 0, k 1, k 2, ValueIdx.eq_ix3 k⟩
    rw [refStarts_apply _ _ _ _ (hq _)]; exact hq _
  unfold refRows
  show Scalar.select (broadcastInDim S1024x26x4096 ![0, 1] bcast_S1024x26_S1024x26x4096_0_1 (refMask (refStarts (refLevels x))) (ix3 b f p)) _ _ = _
  rw [broadcastInDim_apply _ _ _ (ix3 b f p) (ix2 b f) (by intro a; fin_cases a <;> rfl), refMask_apply _ hs]
  show Host.gather gather_S1000x4096_S1024x26x1_S1024x26x4096_2_0_n_n_0_2_14096 w (refStarts (refLevels x)) (ix3 b f p) = _
  rw [lookup_apply]
  congr 2
  refine Fin.ext ?_
  show min (refStarts (refLevels x) (ix3 b f 0)).toInt.toNat 999 = levelN _
  rw [refStarts_apply _ _ _ _ (hq _), BitVec.toInt_eq_toNat_of_lt (by have := hq (ix2 b f); omega), refLevels_toNat]
  have := levelN_le (x (ix2 b f) * ((999 : ℝ) : EReal))
  omega

/-! ## The result -/

/-- The entry that feature `f` contributes to the sum at sample `b`, column `p`. -/
theorem lift3_eq (h : S1024x26x4096.Reduces [1] S1024x4096) (b : Fin 1024) (f : Fin 26) (p : Fin 4096) :
    Shape.Reduces.lift h (ix2 b p) f = ix3 b f p := by
  funext a
  match a with
  | ⟨0, _⟩ => rfl
  | ⟨1, _⟩ => rfl
  | ⟨2, _⟩ => rfl

/-- What the reference leaves at sample `b`, column `p`. -/
theorem refOut_apply (x : FVec Ideal S1024x26 .f32) (w : FVec Ideal S1000x4096 .f32) (b : Fin 1024) (p : Fin 4096) :
    refOut x w (ix2 b p)
      = Ideal.tanh (∑ f : Fin 26, w (ix2 ⟨levelN (x (ix2 b f) * ((999 : ℝ) : EReal)), Nat.lt_succ_of_le (levelN_le _)⟩ p)) := by
  have h : S1024x26x4096.Reduces [1] S1024x4096 := by decide
  unfold refOut
  show Ideal.tanh (Ideal.hostReduceAdd reducesTo_S1024x26x4096_S1024x4096_d1 (refRows w (refStarts (refLevels x))) (Ideal.ofBits .f32 0x00000000#32) (ix2 b p)) = _
  rw [Ideal.hostReduceAdd_single _ h, Ideal.ofBits_zero_f32, zero_add]
  refine congrArg Ideal.tanh (Finset.sum_congr rfl fun f _ => ?_)
  rw [show Shape.Reduces.lift h (ix2 b p) f = ix3 b f p from lift3_eq h b f p]
  exact refRows_apply x w b f p

end Cert.Proof.Enc

end
-- ==== Proof.LevelTable.lean ====
/-
  The precondition read entry by entry: every weight is a real number, every entry of a column is the column's first or its
  last, and the entries equal to the first lie above the others. So a column is its first entry up to its threshold and its
  last entry from there on.
-/
module

public import proofs.«01_k».proof.Pre_level_table
public import proofs.«01_k».proof.Proof.Bits
public import proofs.«01_k».proof.Proof.KernelValue

@[expose] public section

noncomputable section

namespace Cert.Proof.Enc

open Idealize.ShloMosaic hiding ix0 ix1 ix2
open Idealize.ShloMosaic.ValueIdx (ix0 ix1 ix2)
open scoped BigOperators

/-- The shape relations the precondition states. -/
instance level_table_facts : Cert.Pre_level_table.Facts where
  bcast_S_S1000x4096 := by decide
  reducesTo_S1000x4096_S_d0_1 := by decide
  h_S_ := by decide
  slices_S1000x4096_S1x4096_0_0 := by decide
  bcast_S1x4096_S1000x4096_0_1 := by decide
  slices_S1000x4096_S1x4096_999_0 := by decide
  slices_S1000x4096_S999x4096_0_0 := by decide
  slices_S1000x4096_S999x4096_1_0 := by decide
  reducesTo_S999x4096_S_d0_1 := by decide

/-- Entry `i` of column `p` is the column's first entry. -/
def isLow (w : FVec Ideal Cert.Pre_level_table.S1000x4096 .f32) (i : Fin 1000) (p : Fin 4096) : Prop := w (ix2 i p) = w (ix2 0 p)

section Reading

open Cert.Pre_level_table Cert.Pre_level_table.Facts

/-- The bit of an equality is 1 exactly when it holds. -/
theorem oeq_bit (a b : EReal) : Ideal.cmp .oeq a b = 1#1 ↔ a = b := by
  show BitVec.ofBool (decide (a = b)) = 1#1 ↔ _
  by_cases h : a = b
  · rw [decide_eq_true h]; simp [h]
  · rw [decide_eq_false h]; simp [h]

/-- The bits that mark a column's first entry, and its last. -/
theorem first_bit (w : FVec Ideal S1000x4096 .f32) (i : Fin 1000) (p : Fin 4096) :
    cmpf .oeq w (broadcastInDim S1000x4096 ![0, 1] bcast_S1x4096_S1000x4096_0_1 (extractStridedSlice S1x4096 ![0, 0] w slices_S1000x4096_S1x4096_0_0)) (ix2 i p)
      = Ideal.cmp .oeq (w (ix2 i p)) (w (ix2 0 p)) := by
  show Ideal.cmp .oeq (w (ix2 i p)) (broadcastInDim S1000x4096 ![0, 1] bcast_S1x4096_S1000x4096_0_1 (extractStridedSlice S1x4096 ![0, 0] w slices_S1000x4096_S1x4096_0_0) (ix2 i p)) = _
  rw [broadcastInDim_apply _ _ _ (ix2 i p) (ix2 0 p) (by intro a; fin_cases a <;> rfl),
    extractStridedSlice_apply _ _ _ (ix2 0 p) (ix2 0 p) (by
      intro a
      fin_cases a
      · rfl
      · exact (Nat.zero_add _).symm)]

/-- The bit that marks a column's last entry compares with row 999. -/
theorem last_bit (w : FVec Ideal S1000x4096 .f32) (i : Fin 1000) (p : Fin 4096) :
    cmpf .oeq w (broadcastInDim S1000x4096 ![0, 1] bcast_S1x4096_S1000x4096_0_1 (extractStridedSlice S1x4096 ![999, 0] w slices_S1000x4096_S1x4096_999_0)) (ix2 i p)
      = Ideal.cmp .oeq (w (ix2 i p)) (w (ix2 999 p)) := by
  show Ideal.cmp .oeq (w (ix2 i p)) (broadcastInDim S1000x4096 ![0, 1] bcast_S1x4096_S1000x4096_0_1 (extractStridedSlice S1x4096 ![999, 0] w slices_S1000x4096_S1x4096_999_0) (ix2 i p)) = _
  rw [broadcastInDim_apply _ _ _ (ix2 i p) (ix2 0 p) (by intro a; fin_cases a <;> rfl),
    extractStridedSlice_apply _ _ _ (ix2 0 p) (ix2 999 p) (by
      intro a
      fin_cases a
      · rfl
      · exact (Nat.zero_add _).symm)]

/-- A bit that is not set where a relation fails. -/
theorem not_bit (a : BitVec 1) : ~~~a = 1#1 ↔ ¬ a = 1#1 := by
  revert a; decide

/-- The precondition in plain terms. -/
theorem level_table_reads (x : FVec Ideal S1024x26 .f32) (w : FVec Ideal S1000x4096 .f32)
    (h : Cert.Pre_level_table.fn (F := Ideal) x w = fun _ => 1#1) :
    (∀ i p, max (w (ix2 i p)) (-(w (ix2 i p))) < Ideal.ofBits .f32 0x7F800000#32)
      ∧ (∀ i p, w (ix2 i p) = w (ix2 0 p) ∨ w (ix2 i p) = w (ix2 999 p))
      ∧ (∀ (i : Fin 999) p, isLow w ⟨i.val, by omega⟩ p ∨ ¬ isLow w ⟨i.val + 1, by omega⟩ p) := by
  have h0 := congrFun h ix0
  unfold Cert.Pre_level_table.fn at h0
  obtain ⟨h01, h2⟩ := (and_bit _ _).1 h0
  obtain ⟨hf, h1⟩ := (and_bit _ _).1 h01
  have hf' := (reduce_bits _ _ _ _ (fun _ => rfl) _).1 hf
  have h1' := (reduce_bits _ _ _ _ (fun _ => rfl) _).1 h1
  have h2' := (reduce_bits _ _ _ _ (fun _ => rfl) _).1 h2
  refine ⟨fun i p => ?_, fun i p => ?_, fun i p => ?_⟩
  · have e := hf' (ix2 i p) (Subsingleton.elim _ _)
    have e' : BitVec.ofBool (decide (max (w (ix2 i p)) (-(w (ix2 i p))) < Ideal.ofBits .f32 0x7F800000#32)) = 1#1 := e
    by_contra hc
    rw [decide_eq_false hc] at e'
    exact absurd e' (by decide)
  · have e := (or_bit _ _).1 (h1' (ix2 i p) (Subsingleton.elim _ _))
    rw [first_bit, last_bit, oeq_bit, oeq_bit] at e
    exact e
  · have e := (or_bit _ _).1 (h2' (ix2 i p) (Subsingleton.elim _ _))
    have sl : ∀ (v : IVec S1000x4096 1), extractStridedSlice S999x4096 ![0, 0] v slices_S1000x4096_S999x4096_0_0 (ix2 i p) = v (ix2 ⟨i.val, by omega⟩ p) :=
      fun v => extractStridedSlice_apply _ _ _ _ _ (by
        intro a
        fin_cases a
        · exact (Nat.zero_add _).symm
        · exact (Nat.zero_add _).symm)
    have sr : ∀ (v : IVec S1000x4096 1), extractStridedSlice S999x4096 ![1, 0] v slices_S1000x4096_S999x4096_1_0 (ix2 i p) = v (ix2 ⟨i.val + 1, by omega⟩ p) :=
      fun v => extractStridedSlice_apply _ _ _ _ _ (by
        intro a
        fin_cases a
        · exact Nat.add_comm _ _
        · exact (Nat.zero_add _).symm)
    refine e.imp (fun e1 => ?_) (fun e2 => ?_)
    · beta_reduce at e1
      rw [sl, first_bit, oeq_bit] at e1
      exact e1
    · have e3 : ~~~(extractStridedSlice S999x4096 ![1, 0] (cmpf .oeq w (broadcastInDim S1000x4096 ![0, 1] bcast_S1x4096_S1000x4096_0_1 (extractStridedSlice S1x4096 ![0, 0] w slices_S1000x4096_S1x4096_0_0))) slices_S1000x4096_S999x4096_1_0 (ix2 i p)) = 1#1 := e2
      rw [not_bit, sr, first_bit, oeq_bit] at e3
      exact e3

end Reading

/-! ## What follows for a column -/

/-- The literal infinity is the top of the extended reals. -/
theorem lit_inf : Ideal.ofBits .f32 0x7F800000#32 = ⊤ := by
  simp [Ideal.ofBits, Ideal.ieee]

/-- A value whose magnitude is below infinity is a real number. -/
theorem real_of_lt (y : EReal) (h : max y (-y) < ⊤) : ∃ r : ℝ, y = (r : EReal) := by
  induction y with
  | bot => simp at h
  | top => simp at h
  | coe r => exact ⟨r, rfl⟩

/-- Of a property of 1000 places that passes from each place to the one before, the places that have it are the first ones,
    as many as there are. -/
theorem prefix_card (P : Fin 1000 → Prop) [DecidablePred P] (h : ∀ i : Fin 999, P ⟨i.val, by omega⟩ ∨ ¬ P ⟨i.val + 1, by omega⟩)
    (i : Fin 1000) : P i ↔ i.val < (Finset.univ.filter P).card := by
  have down : ∀ (k : ℕ) (j : Fin 1000) (hk : j.val + k < 1000), P ⟨j.val + k, hk⟩ → P j := by
    intro k
    induction k with
    | zero => intro j hk hp; exact hp
    | succ k ih =>
      intro j hk hp
      refine ih j (by omega) ?_
      rcases h ⟨j.val + k, by omega⟩ with hh | hh
      · exact hh
      · exact absurd hp hh
  have le_of : ∀ a b : Fin 1000, a ≤ b → P b → P a := by
    intro a b hab hb
    have hab' : a.val ≤ b.val := hab
    refine down (b.val - a.val) a (by omega) ?_
    have e : (⟨a.val + (b.val - a.val), by omega⟩ : Fin 1000) = b := Fin.ext (by show a.val + (b.val - a.val) = b.val; omega)
    rw [e]; exact hb
  constructor
  · intro hi
    have hs : Finset.Iic i ⊆ Finset.univ.filter P := by
      intro j hj
      rw [Finset.mem_Iic] at hj
      rw [Finset.mem_filter]
      exact ⟨Finset.mem_univ _, le_of _ _ hj hi⟩
    have := Finset.card_le_card hs
    rw [Fin.card_Iic] at this
    omega
  · intro hi
    by_contra hn
    have hs : Finset.univ.filter P ⊆ Finset.Iio i := by
      intro j hj
      rw [Finset.mem_filter] at hj
      rw [Finset.mem_Iio]
      by_contra hc
      exact hn (le_of _ _ (not_lt.1 hc) hj.2)
    have := Finset.card_le_card hs
    rw [Fin.card_Iio] at this
    omega

/-- A column of the weights: its first entry below the threshold, its last entry from there on. -/
theorem column_step (w : FVec Ideal Cert.Pre_level_table.S1000x4096 .f32) (p : Fin 4096)
    (h1 : ∀ i p, w (ix2 i p) = w (ix2 0 p) ∨ w (ix2 i p) = w (ix2 999 p))
    (h2 : ∀ (i : Fin 999) p, isLow w ⟨i.val, by omega⟩ p ∨ ¬ isLow w ⟨i.val + 1, by omega⟩ p) (i : Fin 1000) :
    w (ix2 i p) = if i.val < min 999 (lowCount w p) then w (ix2 0 p) else w (ix2 999 p) := by
  classical
  have hp : w (ix2 i p) = w (ix2 0 p) ↔ i.val < lowCount w p := by
    unfold lowCount
    refine (prefix_card (fun i : Fin 1000 => w (ix2 i p) = w (ix2 0 p)) (fun i => h2 i p) i).trans ?_
    rw [show (Finset.univ.filter fun i : Fin 1000 => w (ix2 i p) = w (ix2 0 p)).card = (Finset.univ.filter fun i : Fin 1000 => w (ix2 i p) = w (ix2 0 p)).card from by congr]
  by_cases hi : i.val < min 999 (lowCount w p)
  · rw [if_pos hi]
    exact hp.2 (by omega)
  · rw [if_neg hi]
    by_cases hc : i.val < lowCount w p
    · have e : i = 999 := Fin.ext (by show i.val = 999; omega)
      rw [e]
    · exact (h1 i p).resolve_left (fun e => hc (hp.1 e))

end Cert.Proof.Enc

end
-- ==== Proof.Equation.lean ====
/-
  The equation: where a column steps once from its first entry to its last, the sum of 26 looked-up entries is 26 first
  entries raised by one step for each feature at or above the threshold. So kernel and reference leave the same array.
-/
module

public import proofs.«01_k».proof.Proof.KernelValue
public import proofs.«01_k».proof.Proof.ReferenceValue
public import proofs.«01_k».proof.Proof.LevelTable

@[expose] public section

noncomputable section

namespace Cert.Proof.Enc

open Idealize.ShloMosaic hiding ix0 ix1 ix2
open Idealize.ShloMosaic.ValueIdx (ix0 ix1 ix2 ix3)
open Cert.KernelIdeal Cert.KernelIdeal.Gen
open scoped BigOperators

/-- A finite sum of real numbers, summed among the extended reals. -/
theorem coe_total {ι : Type} (s : Finset ι) (g : ι → ℝ) : ∑ i ∈ s, ((g i : ℝ) : EReal) = ((∑ i ∈ s, g i : ℝ) : EReal) := by
  classical
  induction s using Finset.induction_on with
  | empty => simp
  | insert a s ha ih => rw [Finset.sum_insert ha, Finset.sum_insert ha, ih, EReal.coe_add]

/-- Twenty-six terms, each `a` where a property holds and `t` elsewhere. -/
theorem step_sum (P : Fin 26 → Prop) [DecidablePred P] (a t : ℝ) :
    ∑ f, (if P f then a else t) = 26 * a + ((26 - (Finset.univ.filter P).card : ℕ) : ℝ) * (t - a) := by
  have hle : (Finset.univ.filter P).card ≤ 26 := (Finset.card_le_univ _).trans (by simp)
  have e : ∀ f, (if P f then a else t) = t + (if P f then 1 else 0) * (a - t) := by
    intro f
    by_cases h : P f
    · rw [if_pos h, if_pos h]; ring
    · rw [if_neg h, if_neg h]; ring
  rw [Finset.sum_congr rfl fun f _ => e f, Finset.sum_add_distrib, ← Finset.sum_mul, Finset.sum_boole, Finset.sum_const,
    Finset.card_univ, Fintype.card_fin, Nat.cast_sub hle, nsmul_eq_mul]
  push_cast
  ring

/-- The two values at sample `b`, column `p`. -/
theorem stepped_eq (x : FVec Ideal S1024x26 .f32) (w : FVec Ideal S1000x4096 .f32)
    (h : Cert.Pre_level_table.fn (F := Ideal) x w = fun _ => 1#1) (b : Fin 1024) (p : Fin 4096) :
    stepped x w b p = refOut x w (ix2 b p) := by
  obtain ⟨hf, h1, h2⟩ := level_table_reads x w h
  obtain ⟨a, ha⟩ := real_of_lt _ (by have := hf 0 p; rwa [lit_inf] at this)
  obtain ⟨t, ht⟩ := real_of_lt _ (by have := hf 999 p; rwa [lit_inf] at this)
  rw [refOut_apply]
  unfold stepped
  refine congrArg Ideal.tanh ?_
  have hs : ∀ f : Fin 26, w (ix2 ⟨levelN (x (ix2 b f) * ((999 : ℝ) : EReal)), Nat.lt_succ_of_le (levelN_le _)⟩ p)
      = ((if levelN (x (ix2 b f) * ((999 : ℝ) : EReal)) < min 999 (lowCount w p) then a else t : ℝ) : EReal) := by
    intro f
    rw [column_step w p h1 h2, ha, ht]
    by_cases hc : levelN (x (ix2 b f) * ((999 : ℝ) : EReal)) < min 999 (lowCount w p)
    · rw [if_pos hc, if_pos hc]
    · rw [if_neg hc, if_neg hc]
  rw [Finset.sum_congr rfl fun f _ => hs f, coe_total, step_sum, ha, ht]
  unfold belowOf
  rw [EReal.coe_add, EReal.coe_mul, EReal.coe_mul, EReal.coe_sub]

/-- Kernel and reference leave the same array. -/
theorem result_eq (x : FVec Ideal S1024x26 .f32) (w : FVec Ideal S1000x4096 .f32)
    (h : Cert.Pre_level_table.fn (F := Ideal) x w = fun _ => 1#1) :
    outAt (F := Ideal) (shapeCast S26624 x shapeCasts_S1024x26_S26624) (shapeCast S4096 (thrOf (F := Ideal) w) shapeCasts_S1x4096_S4096)
      (shapeCast S110592 (extractStridedSlice S27x4096 ![0, 0] (tabOf (F := Ideal) w) slices_S54x4096_S27x4096_0_0) shapeCasts_S27x4096_S110592)
      = refOut x w := by
  funext j
  obtain ⟨b, p, rfl⟩ : ∃ b p, j = ix2 (n0 := 1024) (n1 := 4096) b p := ⟨j 0, j 1, ValueIdx.eq_ix2 j⟩
  rw [outAt_eq, stepped_eq x w h]

end Cert.Proof.Enc

end
-- ==== Proof.Algebraic.lean ====
/-
  The value claim: on weights of the precondition's form, the idealized kernel and the idealized reference run from the same
  arguments to the same result, their arguments unchanged.
-/
module

public import proofs.«01_k».proof.Proof.Frames
public import proofs.«01_k».proof.Proof.Equation

@[expose] public section

noncomputable section

namespace Cert.Proof.Enc

open Idealize.ShloMosaic Idealize.SL.Sem

/-- The generated run's term is the reference's result of this proof. -/
theorem ref_result (m : (ℓ : Loc Cert.ReferenceIdeal.nD Cert.ReferenceIdeal.τ Cert.ReferenceIdeal.sig) → Buf (Elt Ideal) ℓ) (c : Dev Cert.ReferenceIdeal.nD) :
    Cert.ReferenceIdeal.Value.res_main_v7 (F := Ideal) m c
      = refOut (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg1)) := rfl

/-- Kernel and reference end with equal results. -/
theorem algebraic : Cert.algebraic_KernelIdeal_ReferenceIdeal_pre_level_table := fun m ρ m' ρ' hpre hargs =>
  ⟨fun c => Gv (F := Ideal) m c,
    (θ_run Cert.KernelIdeal.defs _ _).mono (fun _ h => h.1) (run_main (F := Ideal) m ρ),
    (θ_run Cert.ReferenceIdeal.defs _ _).mono
      (fun r h c => ⟨(h c).1.trans (by
        rw [ref_result, (hargs c).1, (hargs c).2]
        exact (result_eq _ _ (hpre c)).symm), (h c).2⟩)
      (Cert.ReferenceIdeal.Value.run (F := Ideal) m' ρ')⟩

/-- The frames hold of every memory, so of those the precondition admits. -/
theorem frame_ideal_pre : Cert.quiescent_KernelIdeal_pre_level_table := fun m ρ _ => frame_ideal m ρ trivial

/-- So does the reference's. -/
theorem frame_reference_pre : Cert.quiescent_ReferenceIdeal_pre_level_table := fun m ρ _ => frame_reference m ρ trivial

end Cert.Proof.Enc

end
-- ==== Proof.lean ====
/-
  The certificate's claim, assembled: the frames of Proof/Frames.lean, and the value claim of
  Proof/Algebraic.lean.
-/
module

public import proofs.«01_k».proof.Proof.Algebraic

@[expose] public section

noncomputable section

namespace Cert.Proof

/-- Everything the certificate claims. -/
theorem claim : Cert.Claim :=
  ⟨Cert.Kernel.Gen.facts, Cert.KernelIdeal.Gen.facts, Cert.ReferenceIdeal.Gen.facts, Enc.level_table_facts,
    Enc.frame_kernel, Enc.frame_ideal, Enc.frame_ideal_pre, Enc.frame_reference, Enc.frame_reference_pre, trivial, Enc.algebraic⟩

end Cert.Proof

end
